-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![2, 512, 512]⟩ ⟨3, ![2, 512, 2048]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 512, 512]⟩ ⟨3, ![2, 512, 2048]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x512x768 : Shape := ⟨3, ![2, 512, 768]⟩
abbrev S768x2048 : Shape := ⟨2, ![768, 2048]⟩
abbrev S2x512x512 : Shape := ⟨3, ![2, 512, 512]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x512 : S_.BroadcastsInDim S2x512x512 (![] : Fin 0 → Fin S2x512x512.rank)
  reducesTo_S2x512x512_S_d0_1_2 : S2x512x512.ReducesTo [0, 1, 2] S_

variable [Facts]

def fn {F : FTy → Type} [FloatOps F] (main_arg0 : FVec F S2x512x768 .bf16) (main_arg1 : FVec F S768x2048 .bf16) (main_arg2 : FVec F S2x512x512 .bf16) (main_arg3 : FVec F S2x512x512 .bf16) (main_arg4 : FVec F S2048x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x2048 .f32 := (extf .f32 · bitsLt_bf16_f32) main_arg1
  let main_v6 : FVec F S768x2048 .f32 := Host.absf main_v5
  let main_cst_0 : FVec F S_ .f32 := constant S_ .f32 0x7F800000#32
  let main_v7 : FVec F S768x2048 .f32 := broadcastInDim S768x2048 ![] bcast_S_S768x2048 main_cst_0
  let main_v8 : IVec S768x2048 1 := cmpf .olt main_v6 main_v7
  let main_c_1 : IVec S_ 1 := constantI S_ 1 1#1
  let main_v9 : IVec S_ 1 := (fun x v => Host.reduce IntOp.andi x v reducesTo_S768x2048_S_d0_1 h_S_) main_v8 main_c_1
  let main_v10 : IVec S_ 1 := andi main_v4 main_v9
  let main_v11 : FVec F S2x512x512 .f32 := (extf .f32 · bitsLt_bf16_f32) main_arg2
  let main_v12 : FVec F S2x512x512 .f32 := Host.absf main_v11
  let main_cst_2 : FVec F S_ .f32 := constant S_ .f32 0x7F800000#32
  let main_v13 : FVec F S2x512x512 .f32 := broadcastInDim S2x512x512 ![] bcast_S_S2x512x512 main_cst_2
  let main_v14 : IVec S2x512x512 1 := cmpf .olt main_v12 main_v13
  let main_c_3 : IVec S_ 1 := constantI S_ 1 1#1
  let main_v15 : IVec S_ 1 := (fun x v => Host.reduce IntOp.andi x v reducesTo_S2x512x512_S_d0_1_2 h_S_) main_v14 main_c_3
  let main_v16 : IVec S_ 1 := andi main_v10 main_v15
  main_v16
-- ==== Pre_finite_ReferenceIdeal.lean ====
abbrev S2x512x768 : Shape := ⟨3, ![2, 512, 768]⟩
abbrev S768x2048 : Shape := ⟨2, ![768, 2048]⟩
abbrev S2x512x2048 : Shape := ⟨3, ![2, 512, 2048]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x2048 : S_.BroadcastsInDim S2x512x2048 (![] : Fin 0 → Fin S2x512x2048.rank)
  reducesTo_S2x512x2048_S_d0_1_2 : S2x512x2048.ReducesTo [0, 1, 2] S_

variable [Facts]

def fn {F : FTy → Type} [FloatOps F] (main_arg0 : FVec F S2x512x768 .bf16) (main_arg1 : FVec F S768x2048 .bf16) (main_arg2 : FVec F S2x512x2048 .bf16) (main_arg3 : FVec F S2x512x2048 .bf16) (main_arg4 : FVec F S2048x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x2048 .f32 := (extf .f32 · bitsLt_bf16_f32) main_arg1
  let main_v6 : FVec F S768x2048 .f32 := Host.absf main_v5
  let main_cst_0 : FVec F S_ .f32 := constant S_ .f32 0x7F800000#32
  let main_v7 : FVec F S768x2048 .f32 := broadcastInDim S768x2048 ![] bcast_S_S768x2048 main_cst_0
  let main_v8 : IVec S768x2048 1 := cmpf .olt main_v6 main_v7
  let main_c_1 : IVec S_ 1 := constantI S_ 1 1#1
  let main_v9 : IVec S_ 1 := (fun x v => Host.reduce IntOp.andi x v reducesTo_S768x2048_S_d0_1 h_S_) main_v8 main_c_1
  let main_v10 : IVec S_ 1 := andi main_v4 main_v9
  let main_v11 : FVec F S2x512x2048 .f32 := (extf .f32 · bitsLt_bf16_f32) main_arg2
  let main_v12 : FVec F S2x512x2048 .f32 := Host.absf main_v11
  let main_cst_2 : FVec F S_ .f32 := constant S_ .f32 0x7F800000#32
  let main_v13 : FVec F S2x512x2048 .f32 := broadcastInDim S2x512x2048 ![] bcast_S_S2x512x2048 main_cst_2
  let main_v14 : IVec S2x512x2048 1 := cmpf .olt main_v12 main_v13
  let main_c_3 : IVec S_ 1 := constantI S_ 1 1#1
  let main_v15 : IVec S_ 1 := (fun x v => Host.reduce IntOp.andi x v reducesTo_S2x512x2048_S_d0_1_2 h_S_) main_v14 main_c_3
  let main_v16 : IVec S_ 1 := andi main_v10 main_v15
  main_v16
-- ==== Kernel.lean ====
abbrev S2x512x768 : Shape := ⟨3, ![2, 512, 768]⟩
abbrev S768x2048 : Shape := ⟨2, ![768, 2048]⟩
abbrev S2x512x512 : Shape := ⟨3, ![2, 512, 512]⟩
abbrev S2048x768 : Shape := ⟨2, ![2048, 768]⟩
abbrev S6x512x512 : Shape := ⟨3, ![6, 512, 512]⟩
abbrev S6x4 : Shape := ⟨2, ![6, 4]⟩
abbrev S_ : Shape := ⟨0, ![]⟩
abbrev S512x512 : Shape := ⟨2, ![512, 512]⟩
abbrev S768x512 : Shape := ⟨2, ![768, 512]⟩
abbrev S1x512x768 : Shape := ⟨3, ![1, 512, 768]⟩
abbrev S512x768 : Shape := ⟨2, ![512, 768]⟩
abbrev S512x64 : Shape := ⟨2, ![512, 64]⟩
abbrev S1x512x64 : Shape := ⟨3, ![1, 512, 64]⟩
abbrev S512 : Shape := ⟨1, ![512]⟩
abbrev S512x1 : Shape := ⟨2, ![512, 1]⟩
abbrev S1x1 : Shape := ⟨2, ![1, 1]⟩
abbrev S1x512x128 : Shape := ⟨3, ![1, 512, 128]⟩
abbrev S512x128 : Shape := ⟨2, ![512, 128]⟩
abbrev S1x512x512 : Shape := ⟨3, ![1, 512, 512]⟩

abbrev nBuf : Space → Nat
  | .hbm => 6
  | .vmem => 8
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x512, .bf16⟩
  | .hbm, ⟨3, _⟩ => ⟨S2x512x512, .bf16⟩
  | .hbm, ⟨4, _⟩ => ⟨S2048x768, .bf16⟩
  | .hbm, ⟨5, _⟩ => ⟨S2x512x768, .f32⟩
  | .local _ .vmem, ⟨0, _⟩ => ⟨S2x512x768, .bf16⟩
  | .local _ .vmem, ⟨1, _⟩ => ⟨S768x2048, .bf16⟩
  | .local _ .vmem, ⟨2, _⟩ => ⟨S2x512x512, .bf16⟩
  | .local _ .vmem, ⟨3, _⟩ => ⟨S2x512x512, .bf16⟩
  | .local _ .vmem, ⟨4, _⟩ => ⟨S2048x768, .bf16⟩
  | .local _ .vmem, ⟨5, _⟩ => ⟨S2x512x768, .f32⟩
  | .local _ .vmem, ⟨6, _⟩ => ⟨S2x512x512, .bf16⟩
  | .local _ .vmem, ⟨7, _⟩ => ⟨S6x512x512, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  (ofTc nBuf bufTy 1 54 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_7 : BitVec 32 := 1#32
  let v11 : BitVec 32 := Scalar.muli v5 c1_i32_7
  let v12 : BitVec 32 := Scalar.addi c0_i32 v11
  v12.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_9 : BitVec 32 := 1#32
  let v13 : BitVec 32 := Scalar.muli v7 c1_i32_9
  let v14 : BitVec 32 := Scalar.addi c0_i32_10 v13
  v14.toNat
def k0_off1 (d0 : Dev nD) : Fin 2 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v27 : BitVec 32 := Scalar.muli v2 c512_i32
  let v28 : Index := Scalar.indexCast v27
  ![0, v28.toNat]
def k0_dev3 (d0 : Dev nD) : Nat :=
  let c0_i32_49 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_48 : BitVec 32 := 1#32
  let v76 : BitVec 32 := Scalar.muli v7 c1_i32_48
  let v77 : BitVec 32 := Scalar.addi c0_i32_49 v76
  v77.toNat
def k0_dev4 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_62 : BitVec 32 := 1#32
  let v87 : BitVec 32 := Scalar.muli v5 c1_i32_62
  let v88 : BitVec 32 := Scalar.addi c0_i32_63 v87
  v88.toNat
def k0_dev5 (d0 : Dev nD) : Nat :=
  let c0_i32_101 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_100 : BitVec 32 := 1#32
  let v138 : BitVec 32 := Scalar.muli v7 c1_i32_100
  let v139 : BitVec 32 := Scalar.addi c0_i32_101 v138
  v139.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_114 : BitVec 32 := 1#32
  let v149 : BitVec 32 := Scalar.muli v5 c1_i32_114
  let v150 : BitVec 32 := Scalar.addi c0_i32_115 v149
  v150.toNat
def k0_dev7 (d0 : Dev nD) : Nat :=
  let c0_i32_153 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_152 : BitVec 32 := 1#32
  let v200 : BitVec 32 := Scalar.muli v7 c1_i32_152
  let v201 : BitVec 32 := Scalar.addi c0_i32_153 v200
  v201.toNat
def k0_dev8 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_165 : BitVec 32 := 1#32
  let v211 : BitVec 32 := Scalar.muli v5 c1_i32_165
  let v212 : BitVec 32 := Scalar.addi c0_i32_166 v211
  v212.toNat
def k0_dev9 (d0 : Dev nD) : Nat :=
  let c0_i32_203 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_202 : BitVec 32 := 1#32
  let v262 : BitVec 32 := Scalar.muli v7 c1_i32_202
  let v263 : BitVec 32 := Scalar.addi c0_i32_203 v262
  v263.toNat
def k0_dev10 (d0 : Dev nD) : Nat :=
  let c0_i32_216 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_215 : BitVec 32 := 1#32
  let v273 : BitVec 32 := Scalar.muli v5 c1_i32_215
  let v274 : BitVec 32 := Scalar.addi c0_i32_216 v273
  v274.toNat
def k0_dev11 (d0 : Dev nD) : Nat :=
  let c0_i32_259 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_258 : BitVec 32 := 1#32
  let v327 : BitVec 32 := Scalar.muli v5 c1_i32_258
  let v328 : BitVec 32 := Scalar.addi c0_i32_259 v327
  v328.toNat
def k0_dev12 (d0 : Dev nD) : Nat :=
  let c0_i32_273 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_272 : BitVec 32 := 1#32
  let v338 : BitVec 32 := Scalar.muli v7 c1_i32_272
  let v339 : BitVec 32 := Scalar.addi c0_i32_273 v338
  v339.toNat
def k0_dev13 (d0 : Dev nD) : Nat :=
  let c0_i32_301 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_300 : BitVec 32 := 1#32
  let v358 : BitVec 32 := Scalar.muli v7 c1_i32_300
  let v359 : BitVec 32 := Scalar.addi c0_i32_301 v358
  v359.toNat
def k0_dev14 (d0 : Dev nD) : Nat :=
  let c0_i32_341 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_340 : BitVec 32 := 1#32
  let v409 : BitVec 32 := Scalar.muli v5 c1_i32_340
  let v410 : BitVec 32 := Scalar.addi c0_i32_341 v409
  v410.toNat
def k0_dev15 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_354 : BitVec 32 := 1#32
  let v420 : BitVec 32 := Scalar.muli v7 c1_i32_354
  let v421 : BitVec 32 := Scalar.addi c0_i32_355 v420
  v421.toNat
def k0_dev16 (d0 : Dev nD) : Nat :=
  let c0_i32_383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_382 : BitVec 32 := 1#32
  let v440 : BitVec 32 := Scalar.muli v7 c1_i32_382
  let v441 : BitVec 32 := Scalar.addi c0_i32_383 v440
  v441.toNat
def k0_dev17 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_422 : BitVec 32 := 1#32
  let v491 : BitVec 32 := Scalar.muli v5 c1_i32_422
  let v492 : BitVec 32 := Scalar.addi c0_i32_423 v491
  v492.toNat
def k0_dev18 (d0 : Dev nD) : Nat :=
  let c0_i32_437 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_436 : BitVec 32 := 1#32
  let v502 : BitVec 32 := Scalar.muli v7 c1_i32_436
  let v503 : BitVec 32 := Scalar.addi c0_i32_437 v502
  v503.toNat
def k0_dev19 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_464 : BitVec 32 := 1#32
  let v522 : BitVec 32 := Scalar.muli v7 c1_i32_464
  let v523 : BitVec 32 := Scalar.addi c0_i32_465 v522
  v523.toNat
def k0_dev20 (d0 : Dev nD) : Nat :=
  let c0_i32_505 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_504 : BitVec 32 := 1#32
  let v573 : BitVec 32 := Scalar.muli v5 c1_i32_504
  let v574 : BitVec 32 := Scalar.addi c0_i32_505 v573
  v574.toNat
def k0_dev21 (d0 : Dev nD) : Nat :=
  let c0_i32_519 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_518 : BitVec 32 := 1#32
  let v584 : BitVec 32 := Scalar.muli v7 c1_i32_518
  let v585 : BitVec 32 := Scalar.addi c0_i32_519 v584
  v585.toNat
def k0_dev22 (d0 : Dev nD) : Nat :=
  let c0_i32_547 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_546 : BitVec 32 := 1#32
  let v604 : BitVec 32 := Scalar.muli v7 c1_i32_546
  let v605 : BitVec 32 := Scalar.addi c0_i32_547 v604
  v605.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_554 : BitVec 32 := 512#32
  let v615 : BitVec 32 := Scalar.muli v2 c512_i32_554
  let v616 : Index := Scalar.indexCast v615
  let c0_555 : Index := 0#32
  ![v616.toNat, 0]
def k0_dev23 (d0 : Dev nD) : Nat :=
  let c0_i32_590 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_589 : BitVec 32 := 1#32
  let v640 : BitVec 32 := Scalar.muli v5 c1_i32_589
  let v641 : BitVec 32 := Scalar.addi c0_i32_590 v640
  v641.toNat
def k0_dev24 (d0 : Dev nD) : Nat :=
  let c0_i32_618 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_617 : BitVec 32 := 1#32
  let v660 : BitVec 32 := Scalar.muli v5 c1_i32_617
  let v661 : BitVec 32 := Scalar.addi c0_i32_618 v660
  v661.toNat
def k0_dev25 (d0 : Dev nD) : Nat :=
  let c0_i32_646 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_645 : BitVec 32 := 1#32
  let v680 : BitVec 32 := Scalar.muli v5 c1_i32_645
  let v681 : BitVec 32 := Scalar.addi c0_i32_646 v680
  v681.toNat
def k0_dev26 (d0 : Dev nD) : Nat :=
  let c0_i32_674 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_673 : BitVec 32 := 1#32
  let v700 : BitVec 32 := Scalar.muli v5 c1_i32_673
  let v701 : BitVec 32 := Scalar.addi c0_i32_674 v700
  v701.toNat
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c512_i32_681 : BitVec 32 := 512#32
  let v711 : BitVec 32 := Scalar.muli v5 c512_i32_681
  let v712 : Index := Scalar.indexCast v711
  let c0_682 : Index := 0#32
  ![v712.toNat, 0]
def k0_off4 (d0 : Dev nD) (c1_i32_3 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v6 : BitVec 32 := Scalar.addi v2 c1_i32_3
  let c4_i32_4 : BitVec 32 := 4#32
  let v7 : BitVec 32 := Scalar.remsi v6 c4_i32_4
  let c512_i32_693 : BitVec 32 := 512#32
  let v724 : BitVec 32 := Scalar.muli v7 c512_i32_693
  let v725 : Index := Scalar.indexCast v724
  let c0_694 : Index := 0#32
  ![v725.toNat, 0]
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x512x768 : Shape := ⟨3, ![2, 512, 768]⟩
abbrev S768x2048 : Shape := ⟨2, ![768, 2048]⟩
abbrev S2x512x2048 : Shape := ⟨3, ![2, 512, 2048]⟩
abbrev S2048x768 : Shape := ⟨2, ![2048, 768]⟩
abbrev S2x512x32x64 : Shape := ⟨4, ![2, 512, 32, 64]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 72
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x2048, .bf16⟩
  | .hbm, ⟨3, _⟩ => ⟨S2x512x2048, .bf16⟩
  | .hbm, ⟨4, _⟩ => ⟨S2048x768, .bf16⟩
  | .hbm, ⟨5, _⟩ => ⟨S2x512x32x64, .bf16⟩
  | .hbm, ⟨6, _⟩ => ⟨S2x512x32x64, .bf16⟩
  | .hbm, ⟨7, _⟩ => ⟨S2x512x2048, .f32⟩
  | .hbm, ⟨8, _⟩ => ⟨S2x512x2048, .bf16⟩
  | .hbm, ⟨9, _⟩ => ⟨S2x512x32x64, .bf16⟩
  | .hbm, ⟨10, _⟩ => ⟨S512, .i32⟩
  | .hbm, ⟨11, _⟩ => ⟨S512x1, .i32⟩
  | .hbm, ⟨12, _⟩ => ⟨S512, .i32⟩
  | .hbm, ⟨13, _⟩ => ⟨S1x512, .i32⟩
  | .hbm, ⟨14, _⟩ => ⟨S512x512, .i32⟩
  | .hbm, ⟨15, _⟩ => ⟨S512x512, .i32⟩
  | .hbm, ⟨16, _⟩ => ⟨S512x512, .i32⟩
  | .hbm, ⟨17, _⟩ => ⟨S512x512, .i32⟩
  | .hbm, ⟨18, _⟩ => ⟨S_, .i32⟩
  | .hbm, ⟨19, _⟩ => ⟨S512x512, .i32⟩
  | .hbm, ⟨20, _⟩ => ⟨S512x512, .i1⟩
  | .hbm, ⟨21, _⟩ => ⟨S_, .i32⟩
  | .hbm, ⟨22, _⟩ => ⟨S1x512, .i32⟩
  | .hbm, ⟨23, _⟩ => ⟨S1x512, .i1⟩
  | .hbm, ⟨24, _⟩ => ⟨S_, .i32⟩
  | .hbm, ⟨25, _⟩ => ⟨S512x1, .i32⟩
  | .hbm, ⟨26, _⟩ => ⟨S512x1, .i1⟩
  | .hbm, ⟨27, _⟩ => ⟨S512x512, .i1⟩
  | .hbm, ⟨28, _⟩ => ⟨S512x512, .i1⟩
  | .hbm, ⟨29, _⟩ => ⟨S512x512, .i1⟩
  | .hbm, ⟨30, _⟩ => ⟨S512x512, .i1⟩
  | .hbm, ⟨31, _⟩ => ⟨S2x32x512x512, .f32⟩
  | .hbm, ⟨32, _⟩ => ⟨S2x32x512x512, .bf16⟩
  | .hbm, ⟨33, _⟩ => ⟨S2x32x512x512, .f32⟩
  | .hbm, ⟨34, _⟩ => ⟨S_, .f32⟩
  | .hbm, ⟨35, _⟩ => ⟨S2x32x512x512, .f32⟩
  | .hbm, ⟨36, _⟩ => ⟨S2x32x512x512, .f32⟩
  | .hbm, ⟨37, _⟩ => ⟨S1x1x512x512, .i1⟩
  | .hbm, ⟨38, _⟩ => ⟨S_, .f32⟩
  | .hbm, ⟨39, _⟩ => ⟨S_, .f32⟩
  | .hbm, ⟨40, _⟩ => ⟨S2x32x512x512, .i1⟩
  | .hbm, ⟨41, _⟩ => ⟨S2x32x512x512, .f32⟩
  | .hbm, ⟨42, _⟩ => ⟨S2x32x512x512, .f32⟩
  | .hbm, ⟨43, _⟩ => ⟨S_, .f32⟩
  | .hbm, ⟨44, _⟩ => ⟨S2x32x512, .f32⟩
  | .hbm, ⟨45, _⟩ => ⟨S2x32x512x1, .f32⟩
  | .hbm, ⟨46, _⟩ => ⟨S2x32x512x512, .f32⟩
  | .hbm, ⟨47, _⟩ => ⟨S2x32x512x512, .f32⟩
  | .hbm, ⟨48, _⟩ => ⟨S2x32x512x512, .f32⟩
  | .hbm, ⟨49, _⟩ => ⟨S_, .i1⟩
  | .hbm, ⟨50, _⟩ => ⟨S512, .i1⟩
  | .hbm, ⟨51, _⟩ => ⟨S1x1x512x1, .i1⟩
  | .hbm, ⟨52, _⟩ => ⟨S_, .f32⟩
  | .hbm, ⟨53, _⟩ => ⟨S2x32x512, .f32⟩
  | .hbm, ⟨54, _⟩ => ⟨S2x32x512x1, .f32⟩
  | .hbm, ⟨55, _⟩ => ⟨S_, .f32⟩
  | .hbm, ⟨56, _⟩ => ⟨S_, .f32⟩
  | .hbm, ⟨57, _⟩ => ⟨S2x32x512x1, .i1⟩
  | .hbm, ⟨58, _⟩ => ⟨S2x32x512x1, .f32⟩
  | .hbm, ⟨59, _⟩ => ⟨S2x32x512x1, .f32⟩
  | .hbm, ⟨60, _⟩ => ⟨S2x32x512x512, .f32⟩
  | .hbm, ⟨61, _⟩ => ⟨S2x32x512x512, .f32⟩
  | .hbm, ⟨62, _⟩ => ⟨S1x1x512x1, .i1⟩
  | .hbm, ⟨63, _⟩ => ⟨S_, .f32⟩
  | .hbm, ⟨64, _⟩ => ⟨S_, .f32⟩
  | .hbm, ⟨65, _⟩ => ⟨S2x32x512x512, .i1⟩
  | .hbm, ⟨66, _⟩ => ⟨S2x32x512x512, .f32⟩
  | .hbm, ⟨67, _⟩ => ⟨S2x32x512x512, .f32⟩
  | .hbm, ⟨68, _⟩ => ⟨S2x32x64x512, .f32⟩
  | .hbm, ⟨69, _⟩ => ⟨S2x512x32x64, .f32⟩
  | .hbm, ⟨70, _⟩ => ⟨S2x512x2048, .f32⟩
  | .hbm, ⟨71, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_c_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_cst_5 : Ref sig .tc := ⟨.hbm, 52, rfl⟩
abbrev main_v37 : Ref sig .tc := ⟨.hbm, 53, rfl⟩
abbrev main_v38 : Ref sig .tc := ⟨.hbm, 54, rfl⟩
abbrev main_cst_6 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_7 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩

abbrev nD : Nat := 1
abbrev τ : Topo := Topo.v7x

variable {F : FTy → Type} [FloatOps F]
-- ==== Proof.MathV.lean ====
/-
# The mathematics of the attention heads

Over the extended reals: weights `exp s` over their sum are weights `exp (s - greatest)` over theirs, where the scores are
reals and a masked score is `⊥`; and a factor of the queries is a factor of the scores.
-/
module

public import Idealize.ShloMosaic.Lib.Pointwise

@[expose] public section

noncomputable section

namespace Cert.Own

open Idealize.ShloMosaic

/-- A real factor that is not negative goes into a sum of extended reals. -/
theorem sum_mul_real {ι : Type} (s : Finset ι) (f : ι → EReal) (z : ℝ) (hz : 0 ≤ z) :
    (∑ i ∈ s, f i) * (z : EReal) = ∑ i ∈ s, f i * (z : EReal) := by
  classical
  induction s using Finset.induction_on with
  | empty => simp
  | insert a s ha ih =>
    rw [Finset.sum_insert ha, Finset.sum_insert ha,
      EReal.right_distrib_of_nonneg_of_ne_top (EReal.coe_nonneg.mpr hz) (EReal.coe_ne_top z), ih]

/-- A sum of reals is a real. -/
theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The greatest of masked real scores, one of them kept, is a real. -/
theorem fold_real {n : ℕ} (σ : Fin n → ℝ) (c : Fin n → BitVec 1) (k0 : Fin n) (h0 : c k0 = 1) :
    ∃ μ : ℝ, Finset.univ.fold max (⊥ : EReal) (fun k => Scalar.select (c k) (σ k : EReal) ⊥) = (μ : EReal) := by
  have hlt : Finset.univ.fold max (⊥ : EReal) (fun k => Scalar.select (c k) (σ k : EReal) ⊥) < ⊤ := by
    rw [Finset.fold_max_lt]
    refine ⟨bot_lt_top, fun k _ => ?_⟩
    unfold Scalar.select
    split
    · exact EReal.coe_lt_top _
    · exact bot_lt_top
  have hgt : ⊥ < Finset.univ.fold max (⊥ : EReal) (fun k => Scalar.select (c k) (σ k : EReal) ⊥) := by
    rw [Finset.lt_fold_max]
    refine Or.inr ⟨k0, Finset.mem_univ _, ?_⟩
    rw [Scalar.select_of_eq_one h0]
    exact EReal.bot_lt_coe _
  exact ⟨_, (EReal.coe_toReal hlt.ne hgt.ne').symm⟩

/-- The two forms of a head's context. -/
theorem softmax {n : ℕ} (σ : Fin n → ℝ) (c : Fin n → BitVec 1) (k0 : Fin n) (h0 : c k0 = 1) (v : Fin n → EReal) :
    Ideal.div (∑ k, Scalar.select (c k) (Ideal.exp (σ k : EReal)) 0 * v k) (∑ k, Scalar.select (c k) (Ideal.exp (σ k : EReal)) 0)
      = ∑ k, v k * Ideal.div (Ideal.exp (Scalar.select (c k) (σ k : EReal) ⊥
            - Finset.univ.fold max (⊥ : EReal) (fun l => Scalar.select (c l) (σ l : EReal) ⊥)))
          (∑ j, Ideal.exp (Scalar.select (c j) (σ j : EReal) ⊥
            - Finset.univ.fold max (⊥ : EReal) (fun l => Scalar.select (c l) (σ l : EReal) ⊥))) := by
  obtain ⟨μ, hμ⟩ := fold_real σ c k0 h0
  simp only [hμ]
  have hw : ∀ k, Scalar.select (c k) (Ideal.exp (σ k : EReal)) 0 = ((if c k = 1 then Real.exp (σ k) else 0 : ℝ) : EReal) := by
    intro k
    unfold Scalar.select
    split
    · exact Ideal.exp_coe _
    · exact EReal.coe_zero.symm
  have he : ∀ k, Ideal.exp (Scalar.select (c k) (σ k : EReal) ⊥ - (μ : EReal))
      = (((if c k = 1 then Real.exp (σ k) else 0) * Real.exp (-μ) : ℝ) : EReal) := by
    intro k
    unfold Scalar.select
    split
    · rw [← EReal.coe_sub, Ideal.exp_coe, sub_eq_add_neg, Real.exp_add]
    · rw [EReal.bot_sub, Ideal.exp_bot, zero_mul, EReal.coe_zero]
  simp only [hw, he, sum_real]
  rw [← Finset.sum_mul]
  have hn : ∀ k, 0 ≤ (if c k = 1 then Real.exp (σ k) else 0 : ℝ) := by
    intro k; split
    · exact (Real.exp_pos _).le
    · exact le_rfl
  have hD : 0 < ∑ k, (if c k = 1 then Real.exp (σ k) else 0 : ℝ) :=
    Finset.sum_pos' (fun k _ => hn k) ⟨k0, Finset.mem_univ _, by rw [if_pos h0]; exact Real.exp_pos _⟩
  generalize (∑ k, (if c k = 1 then Real.exp (σ k) else 0 : ℝ)) = D at hD
  have hE : (0 : ℝ) < Real.exp (-μ) := Real.exp_pos _
  rw [Ideal.div_coe hD.ne', sum_mul_real _ _ _ (by positivity)]
  refine Finset.sum_congr rfl fun k _ => ?_
  rw [Ideal.div_coe (mul_pos hD hE).ne', ← EReal.coe_mul, mul_comm _ (v k), mul_assoc, ← EReal.coe_mul]
  congr 2
  field_simp

/-- The queries' factor is the scores'. -/
theorem scale_out {d e : ℕ} (x : Fin e → ℝ) (w : Fin e → Fin d → ℝ) (k : Fin d → ℝ) (s : ℝ) :
    ∑ i, (∑ j, (x j : EReal) * ((w j i : EReal) * (s : EReal))) * (k i : EReal)
      = (∑ i, (∑ j, (x j : EReal) * (w j i : EReal)) * (k i : EReal)) * (s : EReal) := by
  simp only [← EReal.coe_mul, sum_real]
  congr 1
  rw [Finset.sum_mul]
  refine Finset.sum_congr rfl fun i _ => ?_
  simp only [Finset.sum_mul]
  refine Finset.sum_congr rfl fun j _ => ?_
  ring

/-- Such scores are reals. -/
theorem score_real {d e : ℕ} (x : Fin e → ℝ) (w : Fin e → Fin d → ℝ) (k : Fin d → ℝ) (s : ℝ) :
    ∃ σ : ℝ, (∑ i, (∑ j, (x j : EReal) * (w j i : EReal)) * (k i : EReal)) * (s : EReal) = (σ : EReal) := by
  simp only [← EReal.coe_mul, sum_real]
  exact ⟨_, rfl⟩

/-- A product kept or zero is a kept factor's product. -/
theorem select_mul (c : BitVec 1) (a v : EReal) : Scalar.select c (a * v) 0 = Scalar.select c a 0 * v := by
  unfold Scalar.select
  split
  · rfl
  · exact (zero_mul v).symm

/-! ## The literals -/

theorem lit_eighth32 : Ideal.ofBits .f32 0x3E000000#32 = ((1 / 8 : ℝ) : EReal) := by
  simp [Ideal.ofBits, Ideal.ieee]
  rw [← EReal.coe_mul]
  norm_num
theorem lit_eighth16 : Ideal.ofBits .bf16 0x3E00#16 = ((1 / 8 : ℝ) : EReal) := by
  simp [Ideal.ofBits, Ideal.ieee]
  rw [← EReal.coe_mul]
  norm_num
theorem lit_bot : Ideal.ofBits .f32 0xFF800000#32 = (⊥ : EReal) := by
  simp [Ideal.ofBits, Ideal.ieee]

end Cert.Own
-- ==== Proof.RefV.lean ====
/-
# The reference, read at an index

The reference's composed term cut into its steps (mask, queries, scores, exponentials, weights, context), each read at
an index over the extended reals.
-/
module

public import proofs.«01_k».proof.Proof.Gen.ReferenceIdeal
public import proofs.«01_k».proof.Proof.Gen.ReferenceIdeal.Run
public import proofs.«01_k».proof.Proof.MathV

@[expose] public section

set_option maxRecDepth 16384

noncomputable section

namespace Cert.ReferenceIdeal.Own

open Cert.ReferenceIdeal Cert.ReferenceIdeal.Gen
open Idealize.ShloMosaic Idealize.ShloMosaic.TcCoe Idealize.SL.Sem

/-- The mask. -/
def rMask : IVec S512x512 1 :=
  ori (cmpi .sle (absi (subi (broadcastInDim S512x512 ![0, 1] bcast_S512x1_S512x512_0_1 (broadcastInDim S512x1 ![0] bcast_S512_S512x1_0 (iotaInDim S512 32 0)))
      (broadcastInDim S512x512 ![0, 1] bcast_S1x512_S512x512_0_1 (broadcastInDim S1x512 ![1] bcast_S512_S1x512_1 (iotaInDim S512 32 0)))))
      (broadcastInDim S512x512 ![] bcast_S_S512x512 (constantI S_ 32 128#32)))
    (ori (broadcastInDim S512x512 ![0, 1] bcast_S1x512_S512x512_0_1 (cmpi .slt (broadcastInDim S1x512 ![1] bcast_S512_S1x512_1 (iotaInDim S512 32 0))
      (broadcastInDim S1x512 ![] bcast_S_S1x512 (constantI S_ 32 32#32))))
      (broadcastInDim S512x512 ![0, 1] bcast_S512x1_S512x512_0_1 (cmpi .slt (broadcastInDim S512x1 ![0] bcast_S512_S512x1_0 (iotaInDim S512 32 0))
        (broadcastInDim S512x1 ![] bcast_S_S512x1 (constantI S_ 32 32#32)))))

/-- Whether a row of the mask keeps anything. -/
def rKeep : IVec S512 1 := Host.reduce IntOp.ori rMask (constantI S_ 1 0#1) reducesTo_S512x512_S512_d1 h_S_

variable (X : FVec Ideal S2x512x768 .bf16) (W : FVec Ideal S768x2048 .bf16) (K V : FVec Ideal S2x512x2048 .bf16)
  (O : FVec Ideal S2048x768 .bf16)

/-- The queries. -/
def rQ : FVec Ideal S2x512x2048 .bf16 :=
  truncf .bf16 (Host.dotGeneral dot_S2x512x768_S768x2048_S2x512x2048_2_0_01_1_n_n none X W) bitsLt_bf16_f32

/-- The scaled scores. -/
def rS : FVec Ideal S2x32x512x512 .f32 :=
  mulf (extf .f32 (truncf .bf16 (Host.dotGeneral dot_S2x512x32x64_S2x512x32x64_S2x32x512x512_3_3_1_1_02_02 none
      (shapeCast _ (rQ X W) shapeCasts_S2x512x2048_S2x512x32x64) (shapeCast _ K shapeCasts_S2x512x2048_S2x512x32x64)) bitsLt_bf16_f32) bitsLt_bf16_f32)
    (broadcastInDim S2x32x512x512 ![] bcast_S_S2x32x512x512 (constant S_ .f32 0x3E000000#32))

/-- The masked scores. -/
def rSc : FVec Ideal S2x32x512x512 .f32 :=
  select (broadcastInDim S2x32x512x512 ![0, 1, 2, 3] bcast_S1x1x512x512_S2x32x512x512_0_1_2_3 (broadcastInDim S1x1x512x512 ![2, 3] bcast_S512x512_S1x1x512x512_2_3 rMask))
    (rS X W K) (broadcastInDim S2x32x512x512 ![] bcast_S_S2x32x512x512 (id (constant S_ .f32 0xFF800000#32)))

/-- The exponentials of the masked scores less their row's greatest. -/
def rE : FVec Ideal S2x32x512x512 .f32 :=
  Host.exp (subf (rSc X W K) (broadcastInDim S2x32x512x512 ![0, 1, 2, 3] bcast_S2x32x512x1_S2x32x512x512_0_1_2_3
    (broadcastInDim S2x32x512x1 ![0, 1, 2] bcast_S2x32x512_S2x32x512x1_0_1_2
      (Host.reduce FloatOps.maximumf (rSc X W K) (constant S_ .f32 0xFF800000#32) reducesTo_S2x32x512x512_S2x32x512_d3 h_S_))))

/-- The weights. -/
def rP : FVec Ideal S2x32x512x512 .f32 :=
  select (broadcastInDim S2x32x512x512 ![0, 1, 2, 3] bcast_S1x1x512x1_S2x32x512x512_0_1_2_3 (broadcastInDim S1x1x512x1 ![2] bcast_S512_S1x1x512x1_2 rKeep))
    (Host.divf (rE X W K) (broadcastInDim S2x32x512x512 ![0, 1, 2, 3] bcast_S2x32x512x1_S2x32x512x512_0_1_2_3
      (select (broadcastInDim S2x32x512x1 ![0, 1, 2, 3] bcast_S1x1x512x1_S2x32x512x1_0_1_2_3 (broadcastInDim S1x1x512x1 ![2] bcast_S512_S1x1x512x1_2 rKeep))
        (broadcastInDim S2x32x512x1 ![0, 1, 2] bcast_S2x32x512_S2x32x512x1_0_1_2
          (Host.reduceAdd (rE X W K) (constant S_ .f32 0x00000000#32) reducesTo_S2x32x512x512_S2x32x512_d3 h_S_))
        (broadcastInDim S2x32x512x1 ![] bcast_S_S2x32x512x1 (id (constant S_ .f32 0x3F800000#32))))))
    (broadcastInDim S2x32x512x512 ![] bcast_S_S2x32x512x512 (id (constant S_ .f32 0x00000000#32)))

/-- The context. -/
def rCtx : FVec Ideal S2x512x2048 .f32 :=
  shapeCast _ (transpose S2x512x32x64 [0, 3, 1, 2] (Host.dotGeneral dot_S2x512x32x64_S2x32x512x512_S2x32x64x512_1_3_3_2_02_01 none
    (shapeCast _ V shapeCasts_S2x512x2048_S2x512x32x64) (rP X W K)) transposes_S2x32x64x512_S2x512x32x64_0_3_1_2) shapeCasts_S2x512x32x64_S2x512x2048

/-- The result. -/
def rOut : FVec Ideal S2x512x768 .f32 := Host.dotGeneral dot_S2x512x2048_S2048x768_S2x512x768_2_0_01_1_n_n none (rCtx X W K V) O

/-- The run's term is these steps. -/
theorem res_eq (m : (ℓ : Loc nD τ sig) → Buf (Elt Ideal) ℓ) (c : Dev nD) : Value.res_main_v47 m c
    = rOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) := rfl

/-! ## Read at an index -/

theorem rOut_at (b : Fin 2) (q : Fin 512) (j : Fin 768) : rOut X W K V O (ix3 b q j) = ∑ n : Fin 2048, rCtx X W K V (ix3 b q n) * O (ix2 n j) := by
  pointwise [rOut]

theorem rCtx_at (b : Fin 2) (q : Fin 512) (n : Fin 2048) :
    rCtx X W K V (ix3 b q n) = ∑ k : Fin 512, V (ix3 b k n) * rP X W K (ix4 b ⟨n / 64, by omega⟩ q k) := by
  pointwise [rCtx]

theorem rMask_at (q k : Fin 512) : rMask (ix2 q k)
    = IntOp.ori (IntOp.cmpi .sle (IntOp.absi (IntOp.subi (BitVec.ofNat 32 q) (BitVec.ofNat 32 k))) 128#32)
        (IntOp.ori (IntOp.cmpi .slt (BitVec.ofNat 32 k) 32#32) (IntOp.cmpi .slt (BitVec.ofNat 32 q) 32#32)) := by
  pointwise [rMask]

theorem ori_one (x : BitVec 1) : IntOp.ori 1#1 x = 1#1 := by
  revert x; decide

/-- A query sees its own key. -/
theorem rMask_self (q : Fin 512) : rMask (ix2 q q) = 1#1 := by
  rw [rMask_at]
  have e : IntOp.subi (BitVec.ofNat 32 q) (BitVec.ofNat 32 q) = 0#32 := BitVec.sub_self _
  have d : IntOp.cmpi .sle (IntOp.absi 0#32) 128#32 = 1#1 := by decide
  rw [e, d, ori_one]

/-- So every row keeps something. -/
theorem rKeep_at (q : Fin 512) : rKeep (ix1 q) = 1#1 := by
  have h : rKeep (ix1 q) = Finset.fold IntOp.ori (0#1) (fun x : Fin 512 => rMask (ix2 q x)) Finset.univ := by
    pointwise [rKeep]
  rw [h, ← Finset.insert_erase (Finset.mem_univ q), Finset.fold_insert (Finset.notMem_erase _ _), rMask_self, ori_one]

theorem rS_at (b : Fin 2) (h : Fin 32) (q k : Fin 512) : rS X W K (ix4 b h q k)
    = (∑ d : Fin 64, (∑ e : Fin 768, X (ix3 b q e) * W (ix2 e ⟨h * 64 + d, by omega⟩)) * K (ix3 b k ⟨h * 64 + d, by omega⟩))
        * ((1 / 8 : ℝ) : EReal) := by
  rw [← Cert.Own.lit_eighth32]
  pointwise [rS, rQ]

theorem rSc_at (b : Fin 2) (h : Fin 32) (q k : Fin 512) :
    rSc X W K (ix4 b h q k) = Scalar.select (rMask (ix2 q k)) (rS X W K (ix4 b h q k)) (⊥ : EReal) := by
  rw [← Cert.Own.lit_bot]
  pointwise [rSc]
  rfl

theorem rE_at (b : Fin 2) (h : Fin 32) (q k : Fin 512) : rE X W K (ix4 b h q k)
    = Ideal.exp (rSc X W K (ix4 b h q k) - Finset.univ.fold max (⊥ : EReal) (fun l : Fin 512 => rSc X W K (ix4 b h q l))) := by
  rw [← Cert.Own.lit_bot]
  pointwise [rE]

theorem rP_at (b : Fin 2) (h : Fin 32) (q k : Fin 512) :
    rP X W K (ix4 b h q k) = Ideal.div (rE X W K (ix4 b h q k)) (∑ l : Fin 512, rE X W K (ix4 b h q l)) := by
  pointwise [rP]
  rw [rKeep_at]
  exact (Scalar.select_of_eq_one rfl _ _).trans (congrArg _ (Scalar.select_of_eq_one rfl _ _))

end Cert.ReferenceIdeal.Own
-- ==== Proof.ProgI.lean ====
/-
# The kernel's body as a structured program

The printed body is one straight sequence of operations. Here it is written with its loops back: one attention
head, one transfer, one wait, one accumulation, each a function of the batch, head, row or column group it is at.
`body_eq` says that the printed body is this program.
-/
module

public import proofs.«01_k».proof.Proof.Gen.KernelIdeal.Skeleton
public import Idealize.ShloMosaic.Lib.Pipeline.Regions

@[expose] public section

set_option maxRecDepth 16384

noncomputable section

namespace Cert.KernelIdeal.Own

open Cert.KernelIdeal Cert.KernelIdeal.Gen
open Idealize.ShloMosaic Idealize.SL.Sem

variable {F : FTy → Type} [FloatOps F]

/-! ## The buffers -/

abbrev aX : Memref sig .tc .vmem S2x512x768 .bf16 := Memref.whole cc0_stg0_0
abbrev aWq : Memref sig .tc .vmem S768x2048 .bf16 := Memref.whole cc0_stg1_0
abbrev aK : Memref sig .tc .vmem S2x512x512 .bf16 := Memref.whole cc0_stg2_0
abbrev aV : Memref sig .tc .vmem S2x512x512 .bf16 := Memref.whole cc0_stg3_0
abbrev aWo : Memref sig .tc .vmem S2048x768 .bf16 := Memref.whole cc0_stg4_0
abbrev aOut : Memref sig .tc .vmem S2x512x768 .f32 := Memref.whole cc0_stg5_0
abbrev aMine : Memref sig .tc .vmem S2x512x512 .bf16 := Memref.whole cc0_scratch0
abbrev aRecv : Memref sig .tc .vmem S6x512x512 .bf16 := Memref.whole cc0_scratch1

theorem hMine : aMine.IsWhole := Memref.isWhole_whole _
theorem hRecv : aRecv.IsWhole := Memref.isWhole_whole _

abbrev E (F : FTy → Type) [FloatOps F] : Type → Type := TpuEff nD τ sig (Elt F) Λ₀ .tc

/-! ## The rectangles -/

theorem headInb : ∀ (b : Fin 2) (h : Fin 8) (a : Fin 3),
    (![b.val, 0, 64 * h.val] : Fin 3 → Nat) a + S1x512x64.size a ≤ S2x512x512.size a := by decide
theorem headSlc : ∀ h : Fin 8, S512x512.Slices ![0, 64 * h.val] S512x64 := by decide
theorem mInb : ∀ (b : Fin 2) (g : Fin 4) (a : Fin 3),
    (![b.val, 0, 128 * g.val] : Fin 3 → Nat) a + S1x512x128.size a ≤ S2x512x512.size a := by decide
theorem rInb : ∀ (r : Fin 6) (g : Fin 4) (a : Fin 3),
    (![r.val, 0, 128 * g.val] : Fin 3 → Nat) a + S1x512x128.size a ≤ S6x512x512.size a := by decide
theorem sInb : ∀ (r : Fin 6) (g : Fin 4) (a : Fin 2),
    (![r.val, g.val] : Fin 2 → Nat) a + S1x1.size a ≤ S6x4.size a := by decide
theorem xInb : ∀ (b : Fin 2) (a : Fin 3),
    (![b.val, 0, 0] : Fin 3 → Nat) a + S1x512x768.size a ≤ S2x512x768.size a := by decide
theorem m1Inb : ∀ (b : Fin 2) (a : Fin 3),
    (![b.val, 0, 0] : Fin 3 → Nat) a + S1x512x512.size a ≤ S2x512x512.size a := by decide
theorem r1Inb : ∀ (r : Fin 6) (a : Fin 3),
    (![r.val, 0, 0] : Fin 3 → Nat) a + S1x512x512.size a ≤ S6x512x512.size a := by decide

/-- Head `h`'s columns of batch `b`. -/
abbrev headR (b : Fin 2) (h : Fin 8) : Rect S2x512x512 :=
  Rect.unit (s := S2x512x512) ![b.val, 0, 64 * h.val] S1x512x64.size (headInb b h)
/-- Column group `g` of batch `b`. -/
abbrev mR (b : Fin 2) (g : Fin 4) : Rect S2x512x512 :=
  Rect.unit (s := S2x512x512) ![b.val, 0, 128 * g.val] S1x512x128.size (mInb b g)
/-- Column group `g` of landing row `r`. -/
abbrev rR (r : Fin 6) (g : Fin 4) : Rect S6x512x512 :=
  Rect.unit (s := S6x512x512) ![r.val, 0, 128 * g.val] S1x512x128.size (rInb r g)
abbrev sR (r : Fin 6) (g : Fin 4) : Rect S6x4 := Rect.unit (s := S6x4) ![r.val, g.val] S1x1.size (sInb r g)
abbrev xR (b : Fin 2) : Rect S2x512x768 := Rect.unit (s := S2x512x768) ![b.val, 0, 0] S1x512x768.size (xInb b)
abbrev m1R (b : Fin 2) : Rect S2x512x512 := Rect.unit (s := S2x512x512) ![b.val, 0, 0] S1x512x512.size (m1Inb b)
abbrev r1R (r : Fin 6) : Rect S6x512x512 := Rect.unit (s := S6x512x512) ![r.val, 0, 0] S1x512x512.size (r1Inb r)

theorem headPacked : ∀ (b : Fin 2) (h : Fin 8), (headR b h).PackedRows (EltTy.packing .bf16) := by decide
theorem mWords : ∀ (b : Fin 2) (g : Fin 4), (mR b g).WholeWords (EltTy.packing .bf16) := by decide
theorem rWords : ∀ (r : Fin 6) (g : Fin 4), (rR r g).WholeWords (EltTy.packing .bf16) := by decide

/-! ## The transfers' ends -/

/-- Column group `g` of the own context of batch `b`. -/
abbrev mP (b : Fin 2) (g : Fin 4) : Memref sig .tc .vmem S512x128 .bf16 :=
  (aMine.slice (mR b g) (fun _ => rfl)).squeeze S512x128 squeezes_S1x512x128_S512x128
/-- Column group `g` of landing row `r`. -/
abbrev rP (r : Fin 6) (g : Fin 4) : Memref sig .tc .vmem S512x128 .bf16 :=
  (aRecv.slice (rR r g) (fun _ => rfl)).squeeze S512x128 squeezes_S1x512x128_S512x128
/-- The send and the receive semaphore of row `r`, group `g`. -/
abbrev sS (r : Fin 6) (g : Fin 4) : DmaSem sig := ((cc0_scratch2.slice (sR r g)).squeeze S_ squeezes_S1x1_S_).sem
abbrev rS (r : Fin 6) (g : Fin 4) : DmaSem sig := ((cc0_scratch3.slice (sR r g)).squeeze S_ squeezes_S1x1_S_).sem

/-- What row `r`'s transfer sends: the own context of batch 0 (rows 0 and 1) or 1 (rows 3 and 4), or the landing
    row it forwards (row 2 forwards row 0, row 5 row 3). -/
def srcP : Fin 6 → Fin 4 → Memref sig .tc .vmem S512x128 .bf16
  | 0, g => mP 0 g
  | 1, g => mP 0 g
  | 2, g => rP 0 g
  | 3, g => mP 1 g
  | 4, g => mP 1 g
  | 5, g => rP 3 g

theorem mWE (b : Fin 2) (g : Fin 4) : (mP b g).view.WordExact :=
  (hMine.wordExact_slice rfl _ (mWords b g)).reshape _ _
theorem rWE (r : Fin 6) (g : Fin 4) : (rP r g).view.WordExact :=
  (hRecv.wordExact_slice rfl _ (rWords r g)).reshape _ _
theorem srcWE : ∀ (r : Fin 6) (g : Fin 4), (srcP r g).view.WordExact
  | 0, g => mWE 0 g
  | 1, g => mWE 0 g
  | 2, g => rWE 0 g
  | 3, g => mWE 1 g
  | 4, g => mWE 1 g
  | 5, g => rWE 3 g

abbrev rgt (d : Dev nD) : Dev nD := ⟨k0_dev3 d, k0_dev3_lt d⟩
abbrev lft (d : Dev nD) : Dev nD := ⟨k0_dev4 d, k0_dev4_lt d⟩

/-- Whom row `r`'s transfer goes to. -/
def tgt : Fin 6 → Dev nD → Dev nD
  | 0, d => rgt d
  | 1, d => lft d
  | 2, d => rgt d
  | 3, d => lft d
  | 4, d => rgt d
  | 5, d => lft d

abbrev barS : Sem sig := (SemArray.scalar (sig.barrier 0 rfl) : Sems sig S_).sem

/-! ## The steps -/

/-- One head's context: the query slice against the keys, exponentials kept where the mask is, times the values,
    over the row sums. -/
def headVal (h : Fin 8) (qb : FVec F S512x512 .f32) (kk vv : Vec F S1x512x64 .bf16) : FVec F S1x512x64 .bf16 :=
  let q : FVec F S512x64 .bf16 := truncf .bf16 (extractStridedSlice S512x64 ![0, 64 * h.val] qb (headSlc h)) bitsLt_bf16_f32
  let k : FVec F S512x64 .bf16 := shapeCast S512x64 kk shapeCasts_S1x512x64_S512x64
  let v : FVec F S512x64 .bf16 := shapeCast S512x64 vv shapeCasts_S1x512x64_S512x64
  let s : FVec F S512x512 .f32 := matmul dot_S512x64_S512x64_S512x512_1_1_0_0_n_n none q k (constant S512x512 .f32 0x00000000#32)
  let w : FVec F S512x512 .f32 := select k0_pay1 (exp s) (broadcast S512x512 (Scalar.ofBits .f32 0x00000000#32))
  let dn : FVec F S512x1 .f32 :=
    shapeCast S512x1 (multiReduction .add [1] S512 w 0x00000000#32 reduces_S512x512_S512 (.inl rfl) rfl) shapeCasts_S512_S512x1
  let n : FVec F S512x64 .f32 := matmul dot_S512x512_S512x64_S512x64_1_0_0_1_n_n none (truncf .bf16 w bitsLt_bf16_f32) v (constant S512x64 .f32 0x00000000#32)
  shapeCast S1x512x64 (truncf .bf16 (divf n (broadcastTo S512x64 dn broadcasts_S512x1_S512x64)) bitsLt_bf16_f32) shapeCasts_S512x64_S1x512x64

def headP (qb : FVec F S512x512 .f32) (b : Fin 2) (h : Fin 8) : Prog (E F) PUnit := do
  let kk : Vec F S1x512x64 .bf16 ← Prog.lift (.load aK (headR b h).toLoadRect (View.loadsAt_vmem h_S1x512x64))
  let vv : Vec F S1x512x64 .bf16 ← Prog.lift (.load aV (headR b h).toLoadRect (View.loadsAt_vmem h_S1x512x64))
  let _ : Vec F S1x512x64 .bf16 ← Prog.lift (.load aMine (headR b h).toLoadRect (View.loadsAt_vmem h_S1x512x64))
  Prog.lift (.store aMine (headR b h) (headVal h qb kk vv) Finset.univ
    (View.stores_vmem h_S1x512x64 (hMine.storeExact_slice rfl _ (headPacked b h)) (fun _ => rfl)) (.inl rfl))

def startP (d : Dev nD) (r : Fin 6) (g : Fin 4) : Prog (E F) PUnit :=
  Prog.lift (.enqueueDma (srcP r g) (.remote (Dev.tc (tgt r d)) (rP r g) (.dma (sS r g))) (.dma (rS r g))
    (srcWE r g) (rWE r g) ⟨⟨rfl, Or.inl rfl⟩, trivial⟩)

def waitRecvP (r : Fin 6) (g : Fin 4) : Prog (E F) PUnit :=
  Prog.lift (.waitDma2 (rS r g) (srcP r g) (rP r g) (srcWE r g) (rWE r g))

def waitSendP (r : Fin 6) (g : Fin 4) : Prog (E F) PUnit :=
  Prog.lift (.waitDma2 (sS r g) (rP r g) (srcP r g) (rWE r g) (srcWE r g))

/-- The two heads of a column group. -/
def hd0 (g : Fin 4) : Fin 8 := ⟨2 * g.val, by omega⟩
def hd1 (g : Fin 4) : Fin 8 := ⟨2 * g.val + 1, by omega⟩

def phase1 (d : Dev nD) (qb : FVec F S512x512 .f32) (g : Fin 4) : Prog (E F) PUnit := do
  headP qb 0 (hd0 g)
  headP qb 0 (hd1 g)
  startP d 0 g
  startP d 1 g

def phase2 (d : Dev nD) (qb : FVec F S512x512 .f32) (g : Fin 4) : Prog (E F) PUnit := do
  headP qb 1 (hd0 g)
  headP qb 1 (hd1 g)
  startP d 3 g
  startP d 4 g
  waitRecvP 0 g
  startP d 2 g

def phase3 (d : Dev nD) (g : Fin 4) : Prog (E F) PUnit := do
  waitRecvP 3 g
  startP d 5 g

def waitRow (r : Fin 6) : Prog (E F) PUnit := do
  waitRecvP r 0
  waitRecvP r 1
  waitRecvP r 2
  waitRecvP r 3

def loadWo (off : Fin 2 → Nat) (hoff : ∀ a, off a + S512x768.size a ≤ S2048x768.size a) : Prog (E F) (Vec F S512x768 .bf16) :=
  Prog.lift (.load aWo (Rect.unit (s := S2048x768) off S512x768.size hoff).toLoadRect (View.loadsAt_vmem h_S512x768))

def initP (wo : Vec F S512x768 .bf16) (b : Fin 2) : Prog (E F) PUnit := do
  let m : Vec F S1x512x512 .bf16 ← Prog.lift (.load aMine (m1R b).toLoadRect (View.loadsAt_vmem h_S1x512x512))
  let _ : Vec F S1x512x768 .f32 ← Prog.lift (.load aOut (xR b).toLoadRect (View.loadsAt_vmem h_S1x512x768))
  Prog.lift (.store aOut (xR b) (k0_pay41 wo m) Finset.univ (View.stores_vmem_bits_univ h_S1x512x768 rfl) (.inl rfl))

def accumP (b : Fin 2) (r : Fin 6) (off : Fin 2 → Nat) (hoff : ∀ a, off a + S512x768.size a ≤ S2048x768.size a) : Prog (E F) PUnit := do
  let wo ← loadWo off hoff
  let o : Vec F S1x512x768 .f32 ← Prog.lift (.load aOut (xR b).toLoadRect (View.loadsAt_vmem h_S1x512x768))
  let m : Vec F S1x512x512 .bf16 ← Prog.lift (.load aRecv (r1R r).toLoadRect (View.loadsAt_vmem h_S1x512x512))
  let _ : Vec F S1x512x768 .f32 ← Prog.lift (.load aOut (xR b).toLoadRect (View.loadsAt_vmem h_S1x512x768))
  Prog.lift (.store aOut (xR b) (k0_pay44 wo o m) Finset.univ (View.stores_vmem_bits_univ h_S1x512x768 rfl) (.inl rfl))

def sendWaits (g : Fin 4) : Prog (E F) PUnit := do
  waitSendP 0 g
  waitSendP 1 g
  waitSendP 2 g
  waitSendP 3 g
  waitSendP 4 g
  waitSendP 5 g

def loadX (b : Fin 2) : Prog (E F) (Vec F S1x512x768 .bf16) :=
  Prog.lift (.load aX (xR b).toLoadRect (View.loadsAt_vmem h_S1x512x768))

def prog : Prog (E F) PUnit := do
  let d : Dev nD ← Prog.lift .deviceId
  semSignalWord (lft d) barS 1#32
  semSignalWord (rgt d) barS 1#32
  semWaitWord barS 2#32
  let wq : Vec F S768x512 .bf16 ← Prog.lift (.load aWq (Rect.unit (s := S768x2048) (k0_off1 d) S768x512.size (k0_off1_inb d)).toLoadRect (View.loadsAt_vmem h_S768x512))
  let x0 ← loadX 0
  phase1 d (k0_pay3 (k0_pay2 wq) x0) 0
  phase1 d (k0_pay3 (k0_pay2 wq) x0) 1
  phase1 d (k0_pay3 (k0_pay2 wq) x0) 2
  phase1 d (k0_pay3 (k0_pay2 wq) x0) 3
  let x1 ← loadX 1
  phase2 d (k0_pay3 (k0_pay2 wq) x1) 0
  phase2 d (k0_pay3 (k0_pay2 wq) x1) 1
  phase2 d (k0_pay3 (k0_pay2 wq) x1) 2
  phase2 d (k0_pay3 (k0_pay2 wq) x1) 3
  let wo ← loadWo (k0_off2 d) (k0_off2_inb d)
  initP wo 0
  initP wo 1
  phase3 d 0
  phase3 d 1
  phase3 d 2
  phase3 d 3
  accumP 0 0 (k0_off3 d) (k0_off3_inb d)
  accumP 1 3 (k0_off4 d 1#32) (k0_off4_inb d 0)
  waitRow 1
  accumP 0 1 (k0_off4 d 1#32) (k0_off4_inb d 0)
  waitRow 4
  accumP 1 4 (k0_off3 d) (k0_off3_inb d)
  waitRow 2
  accumP 0 2 (k0_off4 d 2#32) (k0_off4_inb d 1)
  waitRow 5
  accumP 1 5 (k0_off4 d 2#32) (k0_off4_inb d 1)
  sendWaits 0
  sendWaits 1
  sendWaits 2
  sendWaits 3

set_option maxRecDepth 65536 in
/-- The printed body, at the kernel's buffers, is the structured program. -/
theorem body_eq :
    cc0_body (F := F) aX (Memref.isWhole_whole _) aWq (Memref.isWhole_whole _) aK (Memref.isWhole_whole _)
      aV (Memref.isWhole_whole _) aWo (Memref.isWhole_whole _) aOut (Memref.isWhole_whole _)
      aMine hMine aRecv hRecv cc0_scratch2 cc0_scratch3 = prog := by
  chain_rfl

end Cert.KernelIdeal.Own
-- ==== Proof.ContI.lean ====
/-
# What the buffers hold

Every buffer's contents as a function of the devices' argument blocks: the own context (`mineF`), the landing rows
(`recvF`) and the result (`outF` of the two batches). The pure facts about pieces of buffers are here too: which
elements a piece has, and that a landing transfer leaves its piece holding `recvF`.
-/
module

public import proofs.«01_k».proof.Proof.ProgI

@[expose] public section

set_option maxRecDepth 16384

noncomputable section

namespace Cert.KernelIdeal.Own

open Cert.KernelIdeal Cert.KernelIdeal.Gen
open Idealize.ShloMosaic Idealize.ShloMosaic.TcCoe Idealize.SL.Sem

variable {F : FTy → Type} [FloatOps F]

/-! ## The ring -/

theorem rgt_lft (c : Dev nD) : rgt (lft c) = c := by revert c; decide
theorem lft_rgt (c : Dev nD) : lft (rgt c) = c := by revert c; decide
theorem rgt_rgt (c : Dev nD) : rgt (rgt c) = lft (lft c) := by revert c; decide

/-- A transfer: its row and its column group. -/
abbrev Key : Type := Fin 6 × Fin 4

/-- Who sends to device `c`'s row `r`. -/
def frm : Fin 6 → Dev nD → Dev nD
  | 0, d => lft d
  | 1, d => rgt d
  | 2, d => lft d
  | 3, d => rgt d
  | 4, d => lft d
  | 5, d => rgt d

theorem frm_tgt (r : Fin 6) (c : Dev nD) : frm r (tgt r c) = c := by revert r c; decide
theorem tgt_frm (r : Fin 6) (c : Dev nD) : tgt r (frm r c) = c := by revert r c; decide

/-- Whose context row `r` holds when it has landed on device `c`. -/
def orig : Fin 6 → Dev nD → Dev nD
  | 0, d => lft d
  | 1, d => rgt d
  | 2, d => lft (lft d)
  | 3, d => rgt d
  | 4, d => lft d
  | 5, d => rgt (rgt d)
/-- Of which batch. -/
def bat : Fin 6 → Fin 2
  | 0 => 0
  | 1 => 0
  | 2 => 0
  | 3 => 1
  | 4 => 1
  | 5 => 1

/-! ## The contents -/

/-- The devices' argument blocks as their staging buffers hold them. -/
structure Inp (F : FTy → Type) [FloatOps F] where
  x : Dev nD → (cc0_stg0_0 : Ref sig .tc).ty.Contents (Elt F)
  wq : Dev nD → (cc0_stg1_0 : Ref sig .tc).ty.Contents (Elt F)
  k : Dev nD → (cc0_stg2_0 : Ref sig .tc).ty.Contents (Elt F)
  v : Dev nD → (cc0_stg3_0 : Ref sig .tc).ty.Contents (Elt F)
  wo : Dev nD → (cc0_stg4_0 : Ref sig .tc).ty.Contents (Elt F)

variable (I : Inp F)

abbrev wqR (c : Dev nD) : Rect S768x2048 := Rect.unit (s := S768x2048) (k0_off1 c) S768x512.size (k0_off1_inb c)
abbrev woR (off : Fin 2 → Nat) (h : ∀ a, off a + S512x768.size a ≤ S2048x768.size a) : Rect S2048x768 :=
  Rect.unit (s := S2048x768) off S512x768.size h

/-- The queries of device `c`'s heads, batch `b`. -/
def qbV (c : Dev nD) (b : Fin 2) : FVec F S512x512 .f32 :=
  k0_pay3 (k0_pay2 (aWq.view.readAt (Elt F) (wqR c).toLoadRect (I.wq c))) (aX.view.readAt (Elt F) (xR b).toLoadRect (I.x c))

/-- One head's context on device `c`. -/
def ctxV (c : Dev nD) (b : Fin 2) (h : Fin 8) : FVec F S1x512x64 .bf16 :=
  headVal h (qbV I c b) (aK.view.readAt (Elt F) (headR b h).toLoadRect (I.k c)) (aV.view.readAt (Elt F) (headR b h).toLoadRect (I.v c))

def headOf (n : Fin 512) : Fin 8 := ⟨n.val / 64, by omega⟩
/-- Where column `n` stands in its head's context. -/
def headIx (q : Fin 512) (n : Fin 512) : S1x512x64.Idx := fun a => match a with
  | ⟨0, _⟩ => (⟨0, by decide⟩ : Fin 1)
  | ⟨1, _⟩ => q
  | ⟨2, _⟩ => (⟨n.val % 64, Nat.mod_lt _ (by decide)⟩ : Fin 64)

/-- Device `c`'s own context: head by head. -/
def mineF (c : Dev nD) : (cc0_scratch0 : Ref sig .tc).ty.Contents (Elt F) :=
  fun (i : S2x512x512.Idx) => ctxV I c (i 0) (headOf (i 2)) (headIx (i 1) (i 2))

def pull (b : Fin 2) (i : S6x512x512.Idx) : S2x512x512.Idx := fun a => match a with
  | ⟨0, _⟩ => b
  | ⟨1, _⟩ => i 1
  | ⟨2, _⟩ => i 2

/-- Device `c`'s landing rows, each once it has landed. -/
def recvF (c : Dev nD) : (cc0_scratch1 : Ref sig .tc).ty.Contents (Elt F) :=
  fun (i : S6x512x512.Idx) => mineF I (orig (i 0) c) (pull (bat (i 0)) i)

/-! ## The pieces -/

theorem mP_set (b : Fin 2) (g : Fin 4) : (mP b g).view.set = (mR b g).set := by
  exact (View.set_reshape _ _).trans (View.set_slice_whole _ _)
theorem rP_set (r : Fin 6) (g : Fin 4) : (rP r g).view.set = (rR r g).set := by
  exact (View.set_reshape _ _).trans (View.set_slice_whole _ _)

theorem mem_headR {b : Fin 2} {h : Fin 8} {i : S2x512x512.Idx} :
    i ∈ (headR b h).set ↔ (i 0).val = b.val ∧ (i 2).val / 64 = h.val := by
  rw [Rect.mem_set_unit, Fin.forall_fin_succ, Fin.forall_fin_succ, Fin.forall_fin_succ]
  have h0 : (i 0).val < 2 := (i 0).isLt
  have h1 : (i 1).val < 512 := (i 1).isLt
  have h2 : (i 2).val < 512 := (i 2).isLt
  show ((b.val ≤ (i 0).val ∧ (i 0).val < b.val + 1) ∧ (0 ≤ (i 1).val ∧ (i 1).val < 0 + 512)
    ∧ (64 * h.val ≤ (i 2).val ∧ (i 2).val < 64 * h.val + 64) ∧ _) ↔ _
  constructor
  · rintro ⟨a, b, c, -⟩; omega
  · intro hh; exact ⟨by omega, by omega, by omega, fun a => a.elim0⟩
theorem mem_mR {b : Fin 2} {g : Fin 4} {i : S2x512x512.Idx} :
    i ∈ (mR b g).set ↔ (i 0).val = b.val ∧ (i 2).val / 128 = g.val := by
  rw [Rect.mem_set_unit, Fin.forall_fin_succ, Fin.forall_fin_succ, Fin.forall_fin_succ]
  have h0 : (i 0).val < 2 := (i 0).isLt
  have h1 : (i 1).val < 512 := (i 1).isLt
  have h2 : (i 2).val < 512 := (i 2).isLt
  show ((b.val ≤ (i 0).val ∧ (i 0).val < b.val + 1) ∧ (0 ≤ (i 1).val ∧ (i 1).val < 0 + 512)
    ∧ (128 * g.val ≤ (i 2).val ∧ (i 2).val < 128 * g.val + 128) ∧ _) ↔ _
  constructor
  · rintro ⟨a, b, c, -⟩; omega
  · intro hh; exact ⟨by omega, by omega, by omega, fun a => a.elim0⟩
theorem mem_rR {r : Fin 6} {g : Fin 4} {i : S6x512x512.Idx} :
    i ∈ (rR r g).set ↔ (i 0).val = r.val ∧ (i 2).val / 128 = g.val := by
  rw [Rect.mem_set_unit, Fin.forall_fin_succ, Fin.forall_fin_succ, Fin.forall_fin_succ]
  have h0 : (i 0).val < 6 := (i 0).isLt
  have h1 : (i 1).val < 512 := (i 1).isLt
  have h2 : (i 2).val < 512 := (i 2).isLt
  show ((r.val ≤ (i 0).val ∧ (i 0).val < r.val + 1) ∧ (0 ≤ (i 1).val ∧ (i 1).val < 0 + 512)
    ∧ (128 * g.val ≤ (i 2).val ∧ (i 2).val < 128 * g.val + 128) ∧ _) ↔ _
  constructor
  · rintro ⟨a, b, c, -⟩; omega
  · intro hh; exact ⟨by omega, by omega, by omega, fun a => a.elim0⟩
theorem mem_m1R {b : Fin 2} {i : S2x512x512.Idx} : i ∈ (m1R b).set ↔ (i 0).val = b.val := by
  rw [Rect.mem_set_unit, Fin.forall_fin_succ, Fin.forall_fin_succ, Fin.forall_fin_succ]
  have h0 : (i 0).val < 2 := (i 0).isLt
  have h1 : (i 1).val < 512 := (i 1).isLt
  have h2 : (i 2).val < 512 := (i 2).isLt
  show ((b.val ≤ (i 0).val ∧ (i 0).val < b.val + 1) ∧ (0 ≤ (i 1).val ∧ (i 1).val < 0 + 512)
    ∧ (0 ≤ (i 2).val ∧ (i 2).val < 0 + 512) ∧ _) ↔ _
  constructor
  · rintro ⟨a, b, c, -⟩; omega
  · intro hh; exact ⟨by omega, by omega, by omega, fun a => a.elim0⟩
theorem mem_r1R {r : Fin 6} {i : S6x512x512.Idx} : i ∈ (r1R r).set ↔ (i 0).val = r.val := by
  rw [Rect.mem_set_unit, Fin.forall_fin_succ, Fin.forall_fin_succ, Fin.forall_fin_succ]
  have h0 : (i 0).val < 6 := (i 0).isLt
  have h1 : (i 1).val < 512 := (i 1).isLt
  have h2 : (i 2).val < 512 := (i 2).isLt
  show ((r.val ≤ (i 0).val ∧ (i 0).val < r.val + 1) ∧ (0 ≤ (i 1).val ∧ (i 1).val < 0 + 512)
    ∧ (0 ≤ (i 2).val ∧ (i 2).val < 0 + 512) ∧ _) ↔ _
  constructor
  · rintro ⟨a, b, c, -⟩; omega
  · intro hh; exact ⟨by omega, by omega, by omega, fun a => a.elim0⟩

/-- The pieces of the own context, by batch and group. -/
abbrev MK : Type := Fin 2 × Fin 4
theorem mR_cover : (Finset.univ : Finset MK).biUnion (fun k => (mR k.1 k.2).set) = Finset.univ := by
  ext i
  simp only [Finset.mem_biUnion, Finset.mem_univ, true_and, iff_true]
  have h0 : (i 0).val < 2 := (i 0).isLt
  have h2 : (i 2).val < 512 := (i 2).isLt
  exact ⟨(⟨(i 0).val, h0⟩, ⟨(i 2).val / 128, by omega⟩), mem_mR.mpr ⟨rfl, rfl⟩⟩
theorem mR_disj (k k' : MK) (h : k ≠ k') : Disjoint (mR k.1 k.2).set (mR k'.1 k'.2).set :=
  Finset.disjoint_left.mpr fun i hi hi' => h (by
    have a := mem_mR.mp hi; have b := mem_mR.mp hi'
    exact Prod.ext (Fin.ext (a.1.symm.trans b.1)) (Fin.ext (a.2.symm.trans b.2)))
theorem rR_cover : (Finset.univ : Finset Key).biUnion (fun k => (rR k.1 k.2).set) = Finset.univ := by
  ext i
  simp only [Finset.mem_biUnion, Finset.mem_univ, true_and, iff_true]
  have h0 : (i 0).val < 6 := (i 0).isLt
  have h2 : (i 2).val < 512 := (i 2).isLt
  exact ⟨(⟨(i 0).val, h0⟩, ⟨(i 2).val / 128, by omega⟩), mem_rR.mpr ⟨rfl, rfl⟩⟩
theorem rR_disj (k k' : Key) (h : k ≠ k') : Disjoint (rR k.1 k.2).set (rR k'.1 k'.2).set :=
  Finset.disjoint_left.mpr fun i hi hi' => h (by
    have a := mem_rR.mp hi; have b := mem_rR.mp hi'
    exact Prod.ext (Fin.ext (a.1.symm.trans b.1)) (Fin.ext (a.2.symm.trans b.2)))
/-- A batch of the own context is its four groups; -/
theorem m1R_cover (b : Fin 2) : (Finset.univ : Finset (Fin 4)).biUnion (fun g => (mR b g).set) = (m1R b).set := by
  ext i
  simp only [Finset.mem_biUnion, Finset.mem_univ, true_and]
  have h2 : (i 2).val < 512 := (i 2).isLt
  exact ⟨fun ⟨g, hg⟩ => mem_m1R.mpr (mem_mR.mp hg).1, fun h => ⟨⟨(i 2).val / 128, by omega⟩, mem_mR.mpr ⟨mem_m1R.mp h, rfl⟩⟩⟩
/-- a landing row is its four groups. -/
theorem r1R_cover (r : Fin 6) : (Finset.univ : Finset (Fin 4)).biUnion (fun g => (rR r g).set) = (r1R r).set := by
  ext i
  simp only [Finset.mem_biUnion, Finset.mem_univ, true_and]
  have h2 : (i 2).val < 512 := (i 2).isLt
  exact ⟨fun ⟨g, hg⟩ => mem_r1R.mpr (mem_rR.mp hg).1, fun h => ⟨⟨(i 2).val / 128, by omega⟩, mem_rR.mpr ⟨mem_r1R.mp h, rfl⟩⟩⟩

/-! ## The heads' stores -/

theorem access_set (b : Fin 2) (h : Fin 8) :
    (aMine.access (headR b h) : View sig .tc _ _ _).setOn Finset.univ = (headR b h).set := View.set_slice_whole _ _

/-- Storing head `h`'s context makes its columns `mineF`'s; -/
theorem store_head (c : Dev nD) (b : Fin 2) (h : Fin 8) (f : (cc0_scratch0 : Ref sig .tc).ty.Contents (Elt F))
    (i : S2x512x512.Idx) (hi : i ∈ (headR b h).set) :
    (aMine.access (headR b h) : View sig .tc _ _ _).write (Elt F) f (ctxV I c b h) Finset.univ i = mineF I c i := by
  rw [← Rect.map_emb_univ] at hi
  obtain ⟨j, -, rfl⟩ := Finset.mem_map.mp hi
  rw [show ((headR b h).emb j) = (aMine.access (headR b h) : View sig .tc _ _ _).emb j from rfl,
    View.write_emb_of_mem _ _ (Finset.mem_univ j)]
  have j0 : (j 0).val = 0 := by have : (j 0).val < 1 := (j 0).isLt; omega
  have j2 : (j 2).val < 64 := (j 2).isLt
  have e0 : ((headR b h).emb j 0).val = b.val := by rw [Rect.emb_apply]; show b.val + 1 * (j 0).val = _; omega
  have e1 : ((headR b h).emb j 1).val = (j 1).val := by rw [Rect.emb_apply]; show 0 + 1 * (j 1).val = _; omega
  have e2 : ((headR b h).emb j 2).val = 64 * h.val + (j 2).val := by rw [Rect.emb_apply]; show 64 * h.val + 1 * (j 2).val = _; omega
  show ctxV I c b h j = ctxV I c ((headR b h).emb j 0) (headOf ((headR b h).emb j 2)) (headIx ((headR b h).emb j 1) ((headR b h).emb j 2))
  have hb : (headR b h).emb j 0 = b := Fin.ext e0
  have hh : headOf ((headR b h).emb j 2) = h := Fin.ext (by show ((headR b h).emb j 2).val / 64 = h.val; omega)
  have hj : headIx ((headR b h).emb j 1) ((headR b h).emb j 2) = j := funext fun a => by
    match a with
    | ⟨0, _⟩ => exact Fin.ext j0.symm
    | ⟨1, _⟩ => exact Fin.ext e1
    | ⟨2, _⟩ => exact Fin.ext (show ((headR b h).emb j 2).val % 64 = (j 2).val by omega)
  rw [hb, hh, hj]
/-- the other columns stay. -/
theorem store_head_other (b : Fin 2) (h : Fin 8) (f : (cc0_scratch0 : Ref sig .tc).ty.Contents (Elt F)) (w : FVec F S1x512x64 .bf16)
    (i : S2x512x512.Idx) (hi : i ∉ (headR b h).set) :
    (aMine.access (headR b h) : View sig .tc _ _ _).write (Elt F) f w Finset.univ i = f i :=
  View.write_of_not_mem _ _ _ (by rw [access_set]; exact hi)

theorem mR_heads {b : Fin 2} {g : Fin 4} {i : S2x512x512.Idx} (hi : i ∈ (mR b g).set) (h0 : i ∉ (headR b (hd0 g)).set) :
    i ∈ (headR b (hd1 g)).set := by
  have a := mem_mR.mp hi
  have n : ¬ _ := fun h => h0 (mem_headR.mpr h)
  refine mem_headR.mpr ⟨a.1, ?_⟩
  have e0 : (hd0 g).val = 2 * g.val := rfl
  have e1 : (hd1 g).val = 2 * g.val + 1 := rfl
  omega
theorem head_sub0 (b : Fin 2) (g : Fin 4) : (headR b (hd0 g)).set ⊆ (mR b g).set := fun i hi => by
  have a := mem_headR.mp hi
  have e0 : (hd0 g).val = 2 * g.val := rfl
  exact mem_mR.mpr ⟨a.1, by omega⟩
theorem head_sub1 (b : Fin 2) (g : Fin 4) : (headR b (hd1 g)).set ⊆ (mR b g).set := fun i hi => by
  have a := mem_headR.mp hi
  have e0 : (hd1 g).val = 2 * g.val + 1 := rfl
  exact mem_mR.mpr ⟨a.1, by omega⟩

/-- After both heads of a group are stored, the group's columns are `mineF`'s. -/
theorem store_heads (c : Dev nD) (b : Fin 2) (g : Fin 4) (f : (cc0_scratch0 : Ref sig .tc).ty.Contents (Elt F))
    (i : S2x512x512.Idx) (hi : i ∈ (mR b g).set) :
    (aMine.access (headR b (hd1 g)) : View sig .tc _ _ _).write (Elt F)
      ((aMine.access (headR b (hd0 g)) : View sig .tc _ _ _).write (Elt F) f (ctxV I c b (hd0 g)) Finset.univ)
      (ctxV I c b (hd1 g)) Finset.univ i = mineF I c i := by
  by_cases h1 : i ∈ (headR b (hd1 g)).set
  · exact store_head I c b _ _ i h1
  · rw [store_head_other b _ _ _ i h1]
    by_cases h0 : i ∈ (headR b (hd0 g)).set
    · exact store_head I c b _ _ i h0
    · exact absurd (mR_heads hi h0) h1

/-! ## The landings -/

theorem mR_emb (b : Fin 2) (g : Fin 4) (r : Fin 6) (hb : bat r = b) (j : S1x512x128.Idx) :
    pull (bat ((rR r g).emb j 0)) ((rR r g).emb j) = (mR b g).emb j := by
  subst hb
  have j0 : (j 0).val = 0 := by have : (j 0).val < 1 := (j 0).isLt; omega
  have e : (rR r g).emb j 0 = r := Fin.ext (by rw [Rect.emb_apply]; show r.val + 1 * (j 0).val = _; omega)
  refine funext fun a => ?_
  match a with
  | ⟨0, _⟩ => exact Fin.ext (by show (bat ((rR r g).emb j 0)).val = (bat r).val + 1 * (j 0).val; rw [e]; omega)
  | ⟨1, _⟩ => exact Fin.ext rfl
  | ⟨2, _⟩ => exact Fin.ext rfl

theorem rR_emb0 (r : Fin 6) (g : Fin 4) (j : S1x512x128.Idx) : (rR r g).emb j 0 = r := by
  have j0 : (j 0).val = 0 := by have : (j 0).val < 1 := (j 0).isLt; omega
  exact Fin.ext (by rw [Rect.emb_apply]; show r.val + 1 * (j 0).val = _; omega)

/-- What row `r`, group `g` of the landing buffer reads as: its origin's context. -/
theorem read_recv (c : Dev nD) (r : Fin 6) (g : Fin 4) :
    (rP r g).view.read (Elt F) (recvF I c) = (mP (bat r) g).view.read (Elt F) (mineF I (orig r c)) := by
  funext j
  rw [View.read_apply, View.read_apply]
  show recvF I c ((rR r g).emb (Shape.reshapeEquiv squeezes_S1x512x128_S512x128.numel_eq j))
    = mineF I (orig r c) ((mR (bat r) g).emb (Shape.reshapeEquiv squeezes_S1x512x128_S512x128.numel_eq j))
  generalize (Shape.reshapeEquiv squeezes_S1x512x128_S512x128.numel_eq j : S1x512x128.Idx) = j'
  show mineF I (orig ((rR r g).emb j' 0) c) (pull (bat ((rR r g).emb j' 0)) ((rR r g).emb j')) = _
  rw [mR_emb (bat r) g r rfl, rR_emb0]

/-- A transfer whose source reads as its target row should leaves the row's piece at `recvF`. -/
theorem land (c : Dev nD) (r : Fin 6) (g : Fin 4) (f : (cc0_scratch1 : Ref sig .tc).ty.Contents (Elt F)) (w : S512x128.Idx → Elt F .bf16)
    (hw : w = (mP (bat r) g).view.read (Elt F) (mineF I (orig r c))) (i : S6x512x512.Idx) (hi : i ∈ (rP r g).view.set) :
    (rP r g).view.write (Elt F) f w Finset.univ i = recvF I c i := by
  obtain ⟨j, -, rfl⟩ := Finset.mem_map.mp (show i ∈ Finset.univ.map (rP r g).view.emb from hi)
  rw [View.write_emb_of_mem _ _ (Finset.mem_univ j), hw, ← read_recv]
  rfl

/-! ## The result -/

def outIx (q : Fin 512) (n : Fin 768) : S1x512x768.Idx := fun a => match a with
  | ⟨0, _⟩ => (⟨0, by decide⟩ : Fin 1)
  | ⟨1, _⟩ => q
  | ⟨2, _⟩ => n

/-- The result buffer holding the two batches `o 0` and `o 1`. -/
def outF (o : Fin 2 → Vec F S1x512x768 .f32) : (cc0_stg5_0 : Ref sig .tc).ty.Contents (Elt F) :=
  fun (i : S2x512x768.Idx) => o (i 0) (outIx (i 1) (i 2))

theorem xR_emb (b : Fin 2) (j : S1x512x768.Idx) : (xR b).emb j 0 = b ∧ outIx ((xR b).emb j 1) ((xR b).emb j 2) = j := by
  have j0 : (j 0).val = 0 := by have : (j 0).val < 1 := (j 0).isLt; omega
  refine ⟨Fin.ext (by rw [Rect.emb_apply]; show b.val + 1 * (j 0).val = _; omega), funext fun a => ?_⟩
  match a with
  | ⟨0, _⟩ => exact Fin.ext j0.symm
  | ⟨1, _⟩ => exact Fin.ext (by show ((xR b).emb j 1).val = (j 1).val; rw [Rect.emb_apply]; show 0 + 1 * (j 1).val = _; omega)
  | ⟨2, _⟩ => exact Fin.ext (by show ((xR b).emb j 2).val = (j 2).val; rw [Rect.emb_apply]; show 0 + 1 * (j 2).val = _; omega)
theorem xR_of (i : S2x512x768.Idx) : (xR (i 0)).emb (outIx (i 1) (i 2)) = i := by
  refine funext fun a => ?_
  match a with
  | ⟨0, _⟩ => exact Fin.ext rfl
  | ⟨1, _⟩ => exact Fin.ext (by rw [Rect.emb_apply]; show 0 + 1 * (i 1).val = (i 1).val; omega)
  | ⟨2, _⟩ => exact Fin.ext (by rw [Rect.emb_apply]; show 0 + 1 * (i 2).val = (i 2).val; omega)

theorem outF_read (o : Fin 2 → Vec F S1x512x768 .f32) (b : Fin 2) :
    aOut.view.readAt (Elt F) (xR b).toLoadRect (outF o) = o b := by
  funext j
  show o ((xR b).emb j 0) (outIx ((xR b).emb j 1) ((xR b).emb j 2)) = o b j
  rw [(xR_emb b j).1, (xR_emb b j).2]
/-- Any contents are such. -/
theorem outF_of (f : (cc0_stg5_0 : Ref sig .tc).ty.Contents (Elt F)) :
    outF (fun b => aOut.view.readAt (Elt F) (xR b).toLoadRect f) = f := by
  funext i
  show f ((xR (i 0)).emb (outIx (i 1) (i 2))) = f i
  rw [xR_of]
/-- Storing a batch replaces it. -/
theorem outF_write (o : Fin 2 → Vec F S1x512x768 .f32) (b : Fin 2) (w : Vec F S1x512x768 .f32) :
    (aOut.access (xR b) : View sig .tc _ _ _).write (Elt F) (outF o) w Finset.univ = outF (Function.update o b w) := by
  funext (i : S2x512x768.Idx)
  have h0 : (i 0).val < 2 := (i 0).isLt
  obtain ⟨b', hb'⟩ : ∃ b' : Fin 2, b' = i 0 := ⟨⟨(i 0).val, h0⟩, rfl⟩
  obtain ⟨j, rfl⟩ : ∃ j, i = (xR b').emb j := ⟨outIx (i 1) (i 2), by subst hb'; exact (xR_of i).symm⟩
  have e : outF (Function.update o b w) ((xR b').emb j) = Function.update o b w b' j := by
    show Function.update o b w ((xR b').emb j 0) (outIx ((xR b').emb j 1) ((xR b').emb j 2)) = _
    rw [(xR_emb b' j).1, (xR_emb b' j).2]
  rw [e]
  by_cases h : b' = b
  · subst h
    rw [show (xR b').emb j = (aOut.access (xR b') : View sig .tc _ _ _).emb j from rfl,
      View.write_emb_of_mem _ _ (Finset.mem_univ _), Function.update_self]
    rfl
  · rw [View.write_of_not_mem _ _ _ (fun hm => ?_), Function.update_of_ne h]
    · show o ((xR b').emb j 0) (outIx ((xR b').emb j 1) ((xR b').emb j 2)) = _
      rw [(xR_emb b' j).1, (xR_emb b' j).2]
    · rw [show (aOut.access (xR b) : View sig .tc _ _ _).setOn Finset.univ = (xR b).set from View.set_slice_whole _ _, ← Rect.map_emb_univ] at hm
      obtain ⟨j', -, e'⟩ := Finset.mem_map.mp hm
      exact h (by rw [← (xR_emb b' j).1, ← e']; exact (xR_emb b j').1)

/-! ### The result's value -/

abbrev woV (c : Dev nD) (off : Fin 2 → Nat) (h : ∀ a, off a + S512x768.size a ≤ S2048x768.size a) : Vec F S512x768 .bf16 :=
  aWo.view.readAt (Elt F) (woR off h).toLoadRect (I.wo c)
abbrev mineV (c : Dev nD) (b : Fin 2) : Vec F S1x512x512 .bf16 := aMine.view.readAt (Elt F) (m1R b).toLoadRect (mineF I c)
abbrev recvV (c : Dev nD) (r : Fin 6) : Vec F S1x512x512 .bf16 := aRecv.view.readAt (Elt F) (r1R r).toLoadRect (recvF I c)

def out0 (c : Dev nD) : Vec F S1x512x768 .f32 :=
  k0_pay44 (woV I c (k0_off4 c 2#32) (k0_off4_inb c 1))
    (k0_pay44 (woV I c (k0_off4 c 1#32) (k0_off4_inb c 0))
      (k0_pay44 (woV I c (k0_off3 c) (k0_off3_inb c))
        (k0_pay41 (woV I c (k0_off2 c) (k0_off2_inb c)) (mineV I c 0)) (recvV I c 0))
      (recvV I c 1))
    (recvV I c 2)
def out1 (c : Dev nD) : Vec F S1x512x768 .f32 :=
  k0_pay44 (woV I c (k0_off4 c 2#32) (k0_off4_inb c 1))
    (k0_pay44 (woV I c (k0_off3 c) (k0_off3_inb c))
      (k0_pay44 (woV I c (k0_off4 c 1#32) (k0_off4_inb c 0))
        (k0_pay41 (woV I c (k0_off2 c) (k0_off2_inb c)) (mineV I c 1)) (recvV I c 3))
      (recvV I c 4))
    (recvV I c 5)
/-- Device `c`'s result. -/
def outAt (c : Dev nD) : (cc0_stg5_0 : Ref sig .tc).ty.Contents (Elt F) := outF ![out0 I c, out1 I c]

end Cert.KernelIdeal.Own
-- ==== Proof.ValV.lean ====
/-
# The kernel's values, read at an index

Over the extended reals: a head's context, a batch's result and the loads between them, each at an index; and the
result as one sum over the four devices' columns.
-/
module

public import proofs.«01_k».proof.Proof.MathV
public import proofs.«01_k».proof.Proof.ContI

@[expose] public section

set_option maxRecDepth 16384

noncomputable section

namespace Cert.KernelIdeal.Own

open Cert.KernelIdeal Cert.KernelIdeal.Gen
open Idealize.ShloMosaic Idealize.ShloMosaic.TcCoe Idealize.SL.Sem

/-! ## The steps -/

theorem headVal_at (h : Fin 8) (qb : FVec Ideal S512x512 .f32) (kk vv : Vec Ideal S1x512x64 .bf16) (q : Fin 512) (n : Fin 64) :
    headVal h qb kk vv (ix3 (0 : Fin 1) q n)
      = Ideal.div (∑ k : Fin 512, Scalar.select (k0_pay1 (ix2 q k))
            (Ideal.exp (∑ d : Fin 64, qb (ix2 q ⟨64 * h + d, by omega⟩) * kk (ix3 0 k d))) 0 * vv (ix3 0 k n))
          (∑ k : Fin 512, Scalar.select (k0_pay1 (ix2 q k))
            (Ideal.exp (∑ d : Fin 64, qb (ix2 q ⟨64 * h + d, by omega⟩) * kk (ix3 0 k d))) 0) := by
  simp only [← Cert.Own.select_mul]
  pointwise [headVal]

theorem pay1_at (q k : Fin 512) : k0_pay1 (ix2 q k)
    = IntOp.ori (IntOp.ori (IntOp.cmpi .sle (IntOp.absi (IntOp.subi (BitVec.ofNat 32 q) (BitVec.ofNat 32 k))) 128#32)
        (IntOp.cmpi .slt (BitVec.ofNat 32 k) 32#32)) (IntOp.cmpi .slt (BitVec.ofNat 32 q) 32#32) := by
  pointwise [k0_pay1]

theorem pay3_at (wq : Vec Ideal S768x512 .bf16) (x : Vec Ideal S1x512x768 .bf16) (q n : Fin 512) :
    k0_pay3 (k0_pay2 wq) x (ix2 q n) = ∑ e : Fin 768, x (ix3 0 q e) * (wq (ix2 e n) * ((1 / 8 : ℝ) : EReal)) := by
  rw [← Cert.Own.lit_eighth16]
  pointwise [k0_pay3, k0_pay2]

theorem pay41_at (wo : Vec Ideal S512x768 .bf16) (m : Vec Ideal S1x512x512 .bf16) (q : Fin 512) (j : Fin 768) :
    k0_pay41 wo m (ix3 (0 : Fin 1) q j) = ∑ n : Fin 512, m (ix3 0 q n) * wo (ix2 n j) := by
  pointwise [k0_pay41, k0_pay40]

theorem pay44_at (wo : Vec Ideal S512x768 .bf16) (o : Vec Ideal S1x512x768 .f32) (m : Vec Ideal S1x512x512 .bf16) (q : Fin 512) (j : Fin 768) :
    k0_pay44 wo o m (ix3 (0 : Fin 1) q j) = o (ix3 0 q j) + ∑ n : Fin 512, m (ix3 0 q n) * wo (ix2 n j) := by
  pointwise [k0_pay44]

/-! ## The loads -/

variable (I : Inp Ideal)

abbrev xV (c : Dev nD) : Vec Ideal S2x512x768 .bf16 := I.x c
abbrev wqV (c : Dev nD) : Vec Ideal S768x2048 .bf16 := I.wq c
abbrev kV (c : Dev nD) : Vec Ideal S2x512x512 .bf16 := I.k c
abbrev vV (c : Dev nD) : Vec Ideal S2x512x512 .bf16 := I.v c
abbrev woA (c : Dev nD) : Vec Ideal S2048x768 .bf16 := I.wo c
abbrev mineA (c : Dev nD) : Vec Ideal S2x512x512 .bf16 := mineF I c

theorem x_at (c : Dev nD) (b : Fin 2) (q : Fin 512) (e : Fin 768) :
    aX.view.readAt (Elt Ideal) (xR b).toLoadRect (I.x c) (ix3 (0 : Fin 1) q e) = xV I c (ix3 b q e) := by
  show I.x c ((xR b).emb (ix3 (0 : Fin 1) q e)) = _
  refine congrArg (I.x c) (funext fun a => ?_)
  match a with
  | ⟨0, _⟩ => exact Fin.ext rfl
  | ⟨1, _⟩ => exact Fin.ext (show 0 + 1 * q.val = q.val by omega)
  | ⟨2, _⟩ => exact Fin.ext (show 0 + 1 * e.val = e.val by omega)

theorem headR_emb (b : Fin 2) (h : Fin 8) (k : Fin 512) (d : Fin 64) :
    (headR b h).emb (ix3 (0 : Fin 1) k d) = ix3 b k (⟨64 * h + d, by omega⟩ : Fin 512) := funext fun a => by
  match a with
  | ⟨0, _⟩ => exact Fin.ext rfl
  | ⟨1, _⟩ => exact Fin.ext (show 0 + 1 * k.val = k.val by omega)
  | ⟨2, _⟩ => exact Fin.ext (show 64 * h.val + 1 * d.val = 64 * h.val + d.val by omega)

theorem k_at (c : Dev nD) (b : Fin 2) (h : Fin 8) (k : Fin 512) (d : Fin 64) :
    aK.view.readAt (Elt Ideal) (headR b h).toLoadRect (I.k c) (ix3 (0 : Fin 1) k d) = kV I c (ix3 b k (⟨64 * h + d, by omega⟩ : Fin 512)) :=
  congrArg (I.k c) (headR_emb b h k d)
theorem v_at (c : Dev nD) (b : Fin 2) (h : Fin 8) (k : Fin 512) (d : Fin 64) :
    aV.view.readAt (Elt Ideal) (headR b h).toLoadRect (I.v c) (ix3 (0 : Fin 1) k d) = vV I c (ix3 b k (⟨64 * h + d, by omega⟩ : Fin 512)) :=
  congrArg (I.v c) (headR_emb b h k d)

theorem off1_at (c : Dev nD) : k0_off1 c 0 = 0 ∧ k0_off1 c 1 = c.val * 512 := by revert c; decide
theorem off2_at (c : Dev nD) : k0_off2 c 0 = c.val * 512 ∧ k0_off2 c 1 = 0 := by revert c; decide
theorem off3_at (c : Dev nD) : k0_off3 c 0 = (lft c).val * 512 ∧ k0_off3 c 1 = 0 := by revert c; decide
theorem off41_at (c : Dev nD) : k0_off4 c 1#32 0 = (rgt c).val * 512 ∧ k0_off4 c 1#32 1 = 0 := by revert c; decide
theorem off42_at (c : Dev nD) : k0_off4 c 2#32 0 = (lft (lft c)).val * 512 ∧ k0_off4 c 2#32 1 = 0 := by revert c; decide
theorem off43_at (c : Dev nD) : k0_off4 c 2#32 0 = (rgt (rgt c)).val * 512 ∧ k0_off4 c 2#32 1 = 0 := by revert c; decide

theorem wq_at (c : Dev nD) (e : Fin 768) (n : Fin 512) :
    aWq.view.readAt (Elt Ideal) (wqR c).toLoadRect (I.wq c) (ix2 e n) = wqV I c (ix2 e (⟨c.val * 512 + n, by have : c.val < 4 := c.isLt; omega⟩ : Fin 2048)) := by
  show I.wq c ((wqR c).emb (ix2 e n)) = _
  refine congrArg (I.wq c) (funext fun a => ?_)
  match a with
  | ⟨0, _⟩ => exact Fin.ext (show k0_off1 c 0 + 1 * e.val = e.val by rw [(off1_at c).1]; omega)
  | ⟨1, _⟩ => exact Fin.ext (show k0_off1 c 1 + 1 * n.val = c.val * 512 + n.val by rw [(off1_at c).2]; omega)

theorem wo_at (c d : Dev nD) (off : Fin 2 → Nat) (h : ∀ a, off a + S512x768.size a ≤ S2048x768.size a) (ho : off 0 = d.val * 512 ∧ off 1 = 0)
    (n : Fin 512) (j : Fin 768) : woV I c off h (ix2 n j) = woA I c (ix2 (⟨d.val * 512 + n, by have : d.val < 4 := d.isLt; omega⟩ : Fin 2048) j) := by
  show I.wo c ((woR off h).emb (ix2 n j)) = _
  refine congrArg (I.wo c) (funext fun a => ?_)
  match a with
  | ⟨0, _⟩ => exact Fin.ext (show off 0 + 1 * n.val = d.val * 512 + n.val by rw [ho.1]; omega)
  | ⟨1, _⟩ => exact Fin.ext (show off 1 + 1 * j.val = j.val by rw [ho.2]; omega)

theorem mine_at (c : Dev nD) (b : Fin 2) (q n : Fin 512) : mineV I c b (ix3 (0 : Fin 1) q n) = mineA I c (ix3 b q n) := by
  show mineF I c ((m1R b).emb (ix3 (0 : Fin 1) q n)) = _
  refine congrArg (mineF I c) (funext fun a => ?_)
  match a with
  | ⟨0, _⟩ => exact Fin.ext rfl
  | ⟨1, _⟩ => exact Fin.ext (show 0 + 1 * q.val = q.val by omega)
  | ⟨2, _⟩ => exact Fin.ext (show 0 + 1 * n.val = n.val by omega)

theorem recv_at (c : Dev nD) (r : Fin 6) (q n : Fin 512) : recvV I c r (ix3 (0 : Fin 1) q n) = mineA I (orig r c) (ix3 (bat r) q n) := by
  have e : (r1R r).emb (ix3 (0 : Fin 1) q n) = ix3 r q n := funext fun a => by
    match a with
    | ⟨0, _⟩ => exact Fin.ext rfl
    | ⟨1, _⟩ => exact Fin.ext (show 0 + 1 * q.val = q.val by omega)
    | ⟨2, _⟩ => exact Fin.ext (show 0 + 1 * n.val = n.val by omega)
  show recvF I c ((r1R r).emb (ix3 (0 : Fin 1) q n)) = _
  rw [e]
  show mineF I (orig r c) (pull (bat r) (ix3 r q n)) = _
  refine congrArg (mineF I (orig r c)) (funext fun a => ?_)
  match a with
  | ⟨0, _⟩ => rfl
  | ⟨1, _⟩ => rfl
  | ⟨2, _⟩ => rfl

/-! ## A device's context -/

theorem qb_at (c : Dev nD) (b : Fin 2) (q n : Fin 512) : qbV I c b (ix2 q n)
    = ∑ e : Fin 768, xV I c (ix3 b q e) * (wqV I c (ix2 e (⟨c.val * 512 + n, by have : c.val < 4 := c.isLt; omega⟩ : Fin 2048)) * ((1 / 8 : ℝ) : EReal)) := by
  unfold qbV
  rw [pay3_at]
  refine Finset.sum_congr rfl fun e _ => ?_
  rw [x_at, wq_at]

/-- A device's scaled scores, of head `h`. -/
def kS (c : Dev nD) (b : Fin 2) (h : Fin 8) (q k : Fin 512) : EReal :=
  ∑ d : Fin 64, (∑ e : Fin 768, xV I c (ix3 b q e)
      * (wqV I c (ix2 e (⟨c.val * 512 + (64 * h + d), by have : c.val < 4 := c.isLt; omega⟩ : Fin 2048)) * ((1 / 8 : ℝ) : EReal)))
    * kV I c (ix3 b k (⟨64 * h + d, by omega⟩ : Fin 512))

theorem mineF_at (c : Dev nD) (b : Fin 2) (q n : Fin 512) : mineA I c (ix3 b q n)
    = Ideal.div (∑ k : Fin 512, Scalar.select (k0_pay1 (ix2 q k)) (Ideal.exp (kS I c b (headOf n) q k)) 0 * vV I c (ix3 b k n))
        (∑ k : Fin 512, Scalar.select (k0_pay1 (ix2 q k)) (Ideal.exp (kS I c b (headOf n) q k)) 0) := by
  have e : headIx q n = ix3 (0 : Fin 1) q (⟨n.val % 64, Nat.mod_lt _ (by decide)⟩ : Fin 64) := funext fun a => by
    match a with
    | ⟨0, _⟩ => rfl
    | ⟨1, _⟩ => rfl
    | ⟨2, _⟩ => rfl
  show ctxV I c b (headOf n) (headIx q n) = _
  rw [e]
  unfold ctxV
  rw [headVal_at]
  have ev : ∀ k : Fin 512, aV.view.readAt (Elt Ideal) (headR b (headOf n)).toLoadRect (I.v c) (ix3 (0 : Fin 1) k (⟨n.val % 64, Nat.mod_lt _ (by decide)⟩ : Fin 64))
      = vV I c (ix3 b k n) := fun k => by
    rw [v_at]
    exact congrArg (fun i => vV I c (ix3 b k i)) (Fin.ext (show 64 * (n.val / 64) + n.val % 64 = n.val by omega))
  have es : ∀ k : Fin 512, (∑ d : Fin 64, qbV I c b (ix2 q (⟨64 * headOf n + d, by omega⟩ : Fin 512))
      * aK.view.readAt (Elt Ideal) (headR b (headOf n)).toLoadRect (I.k c) (ix3 (0 : Fin 1) k d)) = kS I c b (headOf n) q k := fun k => by
    unfold kS
    refine Finset.sum_congr rfl fun d _ => ?_
    rw [qb_at, k_at]
  simp only [ev, es]

/-! ## A device's result -/

/-- What device `d`'s columns add to the result on device `c`. -/
def part (c : Dev nD) (b : Fin 2) (q : Fin 512) (j : Fin 768) (d : Dev nD) : EReal :=
  ∑ n : Fin 512, mineA I d (ix3 b q n) * woA I c (ix2 (⟨d.val * 512 + n, by have : d.val < 4 := d.isLt; omega⟩ : Fin 2048) j)

/-- The ring's order of summing is no matter. -/
theorem ring_sum (S : Fin 4 → EReal) (c : Dev nD) :
    S c + S (lft c) + S (rgt c) + S (lft (lft c)) = ∑ d, S d ∧ S c + S (rgt c) + S (lft c) + S (rgt (rgt c)) = ∑ d, S d := by
  rw [rgt_rgt]
  have h : (c = (0 : Fin 4) ∧ lft c = (3 : Fin 4) ∧ rgt c = (1 : Fin 4) ∧ lft (lft c) = (2 : Fin 4))
      ∨ (c = (1 : Fin 4) ∧ lft c = (0 : Fin 4) ∧ rgt c = (2 : Fin 4) ∧ lft (lft c) = (3 : Fin 4))
      ∨ (c = (2 : Fin 4) ∧ lft c = (1 : Fin 4) ∧ rgt c = (3 : Fin 4) ∧ lft (lft c) = (0 : Fin 4))
      ∨ (c = (3 : Fin 4) ∧ lft c = (2 : Fin 4) ∧ rgt c = (0 : Fin 4) ∧ lft (lft c) = (1 : Fin 4)) := by
    revert c; decide
  rw [Fin.sum_univ_four]
  rcases h with ⟨h0, h1, h2, h3⟩ | ⟨h0, h1, h2, h3⟩ | ⟨h0, h1, h2, h3⟩ | ⟨h0, h1, h2, h3⟩ <;>
    (rw [h3, h1, h2, h0]; exact ⟨by ac_rfl, by ac_rfl⟩)

/-- The own context's product with its rows of the output weights; -/
theorem own_part (c : Dev nD) (b : Fin 2) (q : Fin 512) (j : Fin 768) :
    ∑ n : Fin 512, mineV I c b (ix3 (0 : Fin 1) q n) * woV I c (k0_off2 c) (k0_off2_inb c) (ix2 n j) = part I c b q j c := by
  unfold part
  refine Finset.sum_congr rfl fun n _ => ?_
  rw [mine_at, wo_at I c c _ _ (off2_at c)]
/-- a landed context's with its origin's. -/
theorem recv_part (c : Dev nD) (r : Fin 6) (off : Fin 2 → Nat) (h : ∀ a, off a + S512x768.size a ≤ S2048x768.size a)
    (ho : off 0 = (orig r c).val * 512 ∧ off 1 = 0) (q : Fin 512) (j : Fin 768) :
    ∑ n : Fin 512, recvV I c r (ix3 (0 : Fin 1) q n) * woV I c off h (ix2 n j) = part I c (bat r) q j (orig r c) := by
  unfold part
  refine Finset.sum_congr rfl fun n _ => ?_
  rw [recv_at, wo_at I c (orig r c) _ _ ho]

theorem out0_at (c : Dev nD) (q : Fin 512) (j : Fin 768) : out0 I c (ix3 (0 : Fin 1) q j) = ∑ d, part I c 0 q j d := by
  unfold out0
  rw [pay44_at, pay44_at, pay44_at, pay41_at, own_part, recv_part I c 0 _ _ (off3_at c), recv_part I c 1 _ _ (off41_at c),
    recv_part I c 2 _ _ (off42_at c)]
  exact (ring_sum (part I c 0 q j) c).1
theorem out1_at (c : Dev nD) (q : Fin 512) (j : Fin 768) : out1 I c (ix3 (0 : Fin 1) q j) = ∑ d, part I c 1 q j d := by
  unfold out1
  rw [pay44_at, pay44_at, pay44_at, pay41_at, own_part, recv_part I c 3 _ _ (off41_at c), recv_part I c 4 _ _ (off3_at c),
    recv_part I c 5 _ _ (off43_at c)]
  exact (ring_sum (part I c 1 q j) c).2

theorem outAt_at (c : Dev nD) (b : Fin 2) (q : Fin 512) (j : Fin 768) : (outAt I c : Vec Ideal S2x512x768 .f32) (ix3 b q j) = ∑ d, part I c b q j d := by
  have e : outIx q j = ix3 (0 : Fin 1) q j := funext fun a => by
    match a with
    | ⟨0, _⟩ => rfl
    | ⟨1, _⟩ => rfl
    | ⟨2, _⟩ => rfl
  show (![out0 I c, out1 I c] : Fin 2 → Vec Ideal S1x512x768 .f32) b (outIx q j) = _
  rw [e]
  match b with
  | 0 => exact out0_at I c q j
  | 1 => exact out1_at I c q j

end Cert.KernelIdeal.Own
-- ==== Proof.AlgV.lean ====
/-
# The kernel's result is the reference's

Column by column each device's context is the reference's, its columns being block `c` of the reference's; so each
device's sum over the four devices is the reference's product.
-/
module

public import proofs.«01_k».proof.Proof.RefV
public import proofs.«01_k».proof.Proof.ValV

@[expose] public section

set_option maxRecDepth 16384

noncomputable section

namespace Cert.Own

open Idealize.ShloMosaic
open Cert.ReferenceIdeal (S2x512x768 S768x2048 S2x512x2048 S2048x768)
open Cert.KernelIdeal.Own (Inp xV wqV kV vV woA mineA kS headOf part outAt mineF_at outAt_at pay1_at)
open Cert.ReferenceIdeal.Own

/-- Column `n` of device `c`'s block, among all. -/
def col (c : Fin 4) (n : Fin 512) : Fin 2048 := ⟨c.val * 512 + n, by omega⟩

/-- The kernel's mask is the reference's. -/
theorem mask_eq (q k : Fin 512) : Cert.KernelIdeal.Gen.k0_pay1 (ix2 q k) = rMask (ix2 q k) := by
  rw [pay1_at, rMask_at]
  exact BitVec.or_assoc _ _ _

variable (I : Inp Ideal) (X : FVec Ideal S2x512x768 .bf16) (W : FVec Ideal S768x2048 .bf16) (K V : FVec Ideal S2x512x2048 .bf16)
  (O : FVec Ideal S2048x768 .bf16)

/-- The devices' argument blocks are those of the whole arrays. -/
structure Blocks : Prop where
  x : ∀ c, xV I c = X
  wq : ∀ c, wqV I c = W
  k : ∀ (c : Fin 4) (b : Fin 2) (k n : Fin 512), kV I c (ix3 b k n) = K (ix3 b k (col c n))
  v : ∀ (c : Fin 4) (b : Fin 2) (k n : Fin 512), vV I c (ix3 b k n) = V (ix3 b k (col c n))
  wo : ∀ c, woA I c = O

/-- The entries that the scores read are reals. -/
structure Reals : Prop where
  x : ∀ i, ∃ r : ℝ, X i = (r : EReal)
  w : ∀ i, ∃ r : ℝ, W i = (r : EReal)
  k : ∀ i, ∃ r : ℝ, K i = (r : EReal)

variable {I X W K V O}

/-- A device's scores are the reference's, and reals. -/
theorem score_eq (B : Blocks I X W K V O) (R : Reals X W K) (c : Fin 4) (b : Fin 2) (q k n : Fin 512) :
    ∃ σ : ℝ, kS I c b (headOf n) q k = (σ : EReal) ∧ rS X W K (ix4 b (⟨(col c n).val / 64, by omega⟩ : Fin 32) q k) = (σ : EReal) := by
  obtain ⟨x, hx⟩ := Classical.axiomOfChoice R.x
  obtain ⟨w, hw⟩ := Classical.axiomOfChoice R.w
  obtain ⟨y, hy⟩ := Classical.axiomOfChoice R.k
  have hi : ∀ d : Fin 64, (⟨(col c n).val / 64 * 64 + d, by omega⟩ : Fin 2048) = col c (⟨64 * headOf n + d, by omega⟩ : Fin 512) := fun d =>
    Fin.ext (show (c.val * 512 + n.val) / 64 * 64 + d.val = c.val * 512 + (64 * (n.val / 64) + d.val) by omega)
  have hr : rS X W K (ix4 b (⟨(col c n).val / 64, by omega⟩ : Fin 32) q k)
      = (∑ d : Fin 64, (∑ e : Fin 768, (x (ix3 b q e) : EReal) * (w (ix2 e (col c (⟨64 * headOf n + d, by omega⟩ : Fin 512))) : EReal))
          * (y (ix3 b k (col c (⟨64 * headOf n + d, by omega⟩ : Fin 512))) : EReal)) * ((1 / 8 : ℝ) : EReal) := by
    rw [rS_at]
    refine congrArg (· * _) (Finset.sum_congr rfl fun d _ => ?_)
    rw [hi d, hy]
    refine congrArg (· * _) (Finset.sum_congr rfl fun e _ => ?_)
    rw [hx, hw]
  have hk : kS I c b (headOf n) q k
      = ∑ d : Fin 64, (∑ e : Fin 768, (x (ix3 b q e) : EReal) * ((w (ix2 e (col c (⟨64 * headOf n + d, by omega⟩ : Fin 512))) : EReal) * ((1 / 8 : ℝ) : EReal)))
          * (y (ix3 b k (col c (⟨64 * headOf n + d, by omega⟩ : Fin 512))) : EReal) := by
    unfold kS
    refine Finset.sum_congr rfl fun d _ => ?_
    rw [B.k, hy, B.x, B.wq]
    refine congrArg (· * _) (Finset.sum_congr rfl fun e _ => ?_)
    rw [hx, show (⟨c.val * 512 + (64 * (headOf n).val + d.val), by have := (headOf n).isLt; omega⟩ : Fin 2048) = col c (⟨64 * headOf n + d, by omega⟩ : Fin 512) from rfl, hw]
  obtain ⟨σ, hσ⟩ := score_real (fun e => x (ix3 b q e)) (fun e (d : Fin 64) => w (ix2 e (col c (⟨64 * headOf n + d, by omega⟩ : Fin 512))))
    (fun d => y (ix3 b k (col c (⟨64 * headOf n + d, by omega⟩ : Fin 512)))) (1 / 8)
  exact ⟨σ, hk.trans ((scale_out (fun e => x (ix3 b q e)) (fun e (d : Fin 64) => w (ix2 e (col c (⟨64 * headOf n + d, by omega⟩ : Fin 512))))
    (fun d => y (ix3 b k (col c (⟨64 * headOf n + d, by omega⟩ : Fin 512)))) (1 / 8)).trans hσ), hr.trans hσ⟩

/-- A device's context is the reference's, in its columns. -/
theorem mine_eq (B : Blocks I X W K V O) (R : Reals X W K) (c : Fin 4) (b : Fin 2) (q n : Fin 512) :
    mineA I c (ix3 b q n) = rCtx X W K V (ix3 b q (col c n)) := by
  obtain ⟨σ, hσ⟩ := Classical.axiomOfChoice fun k => score_eq B R c b q k n
  have hS : ∀ k, rSc X W K (ix4 b (⟨(col c n).val / 64, by omega⟩ : Fin 32) q k) = Scalar.select (rMask (ix2 q k)) (σ k : EReal) ⊥ := fun k => by
    rw [rSc_at, (hσ k).2]
  rw [mineF_at, rCtx_at]
  simp only [rP_at, rE_at, hS, mask_eq, (fun k => (hσ k).1), B.v]
  exact softmax σ (fun k => rMask (ix2 q k)) q (rMask_self q) (fun k => V (ix3 b k (col c n)))

/-- A device's result is the reference's. -/
theorem out_eq (B : Blocks I X W K V O) (R : Reals X W K) (c : Fin 4) : (outAt I c : FVec Ideal S2x512x768 .f32) = rOut X W K V O := by
  funext i
  obtain ⟨b, q, j, rfl⟩ : ∃ (b : Fin 2) (q : Fin 512) (j : Fin 768), i = ix3 b q j := ⟨i 0, i 1, i 2, funext fun a => by
    match a with
    | ⟨0, _⟩ => rfl
    | ⟨1, _⟩ => rfl
    | ⟨2, _⟩ => rfl⟩
  have h : ∑ d : Fin 4, part I c b q j d = rOut X W K V O (ix3 b q j) := by
    rw [rOut_at]
    refine Eq.trans ?_ (Fin.sum_univ_tiles 4 512 rfl _).symm
    refine Finset.sum_congr rfl fun d _ => ?_
    unfold part
    refine Finset.sum_congr rfl fun n _ => ?_
    rw [mine_eq B R, B.wo]
    rfl
  exact (outAt_at I c b q j).trans h

end Cert.Own
-- ==== Proof.FinV.lean ====
/-
# The precondition

What `finite` of the arguments says over the extended reals: the tokens, the query weights and the keys are reals.
-/
module

public import proofs.«01_k».proof.Pre_finite_KernelIdeal
public import proofs.«01_k».proof.Pre_finite_ReferenceIdeal
public import proofs.«01_k».proof.Proof.MathV
public import Idealize.ShloMosaic.Lib.ReduceAll

@[expose] public section

noncomputable section

namespace Cert.Own

open Idealize.ShloMosaic

theorem facts_kernel : Cert.Pre_finite_KernelIdeal.Facts where
  bitsLt_bf16_f32 := by decide
  bcast_S_S2x512x768 := by decide
  reducesTo_S2x512x768_S_d0_1_2 := by decide
  h_S_ := by decide
  bcast_S_S768x2048 := by decide
  reducesTo_S768x2048_S_d0_1 := by decide
  bcast_S_S2x512x512 := by decide
  reducesTo_S2x512x512_S_d0_1_2 := by decide

theorem facts_reference : Cert.Pre_finite_ReferenceIdeal.Facts where
  bitsLt_bf16_f32 := by decide
  bcast_S_S2x512x768 := by decide
  reducesTo_S2x512x768_S_d0_1_2 := by decide
  h_S_ := by decide
  bcast_S_S768x2048 := by decide
  reducesTo_S768x2048_S_d0_1 := by decide
  bcast_S_S2x512x2048 := by decide
  reducesTo_S2x512x2048_S_d0_1_2 := by decide

theorem lit_top : Ideal.ofBits .f32 0x7F800000#32 = (⊤ : EReal) := by
  simp [Ideal.ofBits, Ideal.ieee]

/-- An absolute value below `⊤` is a real's. -/
theorem real_of_abs {x : EReal} (h : Ideal.cmp .olt (max x (-x)) (Ideal.ofBits .f32 0x7F800000#32) = 1#1) : ∃ r : ℝ, x = (r : EReal) := by
  rw [lit_top] at h
  have hl : max x (-x) < ⊤ := by
    by_contra hn
    simp [Ideal.cmp, hn] at h
  have h1 : x ≠ ⊤ := fun e => by subst e; simp at hl
  have h2 : x ≠ ⊥ := fun e => by subst e; simp at hl
  exact ⟨_, (EReal.coe_toReal h1 h2).symm⟩

theorem andi_one {a b : BitVec 1} (h : IntOp.andi a b = 1#1) : a = 1#1 ∧ b = 1#1 := by
  revert a b; decide

instance : Subsingleton Cert.Pre_finite_KernelIdeal.S_.Idx := ⟨fun _ _ => funext fun a => a.elim0⟩

open Cert.Pre_finite_KernelIdeal in
/-- The arguments that `finite` reads are reals. -/
theorem real_of_finite [Facts] (X : FVec Ideal S2x512x768 .bf16) (W : FVec Ideal S768x2048 .bf16) (K V : FVec Ideal S2x512x512 .bf16) (O : FVec Ideal S2048x768 .bf16)
    (h : fn X W K V O = fun _ => 1#1) :
    (∀ i, ∃ r : ℝ, X i = (r : EReal)) ∧ (∀ i, ∃ r : ℝ, W i = (r : EReal)) ∧ (∀ i, ∃ r : ℝ, K i = (r : EReal)) := by
  have h0 := congrFun h (fun a => a.elim0)
  obtain ⟨h1, hk⟩ := andi_one h0
  obtain ⟨hx, hw⟩ := andi_one h1
  exact ⟨fun i => real_of_abs (Host.reduce_andi_all _ _ _ _ _ hx i), fun i => real_of_abs (Host.reduce_andi_all _ _ _ _ _ hw i),
    fun i => real_of_abs (Host.reduce_andi_all _ _ _ _ _ hk i)⟩

end Cert.Own
-- ==== Proof.ProtoI.lean ====
/-
# The protocol: cells, schedule, levels

Every device has one barrier cell, 24 send cells and 24 receive cells. One round each: the barrier cell is paid one
unit by either neighbour, with that neighbour's landing pieces this device will write; a receive cell is paid by the
one transfer that lands there, with the landed piece; a send cell by the same transfer, with the source's share.
-/
module

public import proofs.«01_k».proof.Proof.ContI
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's cells: its barrier (`none`), the send (`false`) and the receive (`true`) cell of each transfer. -/
abbrev CI : Type := Option (Bool × Key)

def csem : CI → SemLoc sig
  | none => .reg barS
  | some (false, k) => .dma (sS k.1 k.2)
  | some (true, k) => .dma (rS k.1 k.2)

theorem sS_val : ∀ (r : Fin 6) (g : Fin 4), (sS r g).val = 6 + (4 * r.val + g.val) := by decide
theorem rS_val : ∀ (r : Fin 6) (g : Fin 4), (rS r g).val = 30 + (4 * r.val + g.val) := by decide

def keyOf (n : ℕ) (h : n < 24) : Key := (⟨n / 4, by omega⟩, ⟨n % 4, by omega⟩)

/-- Which of the kernel's cells a semaphore is. -/
def dec : SemLoc sig → Option CI
  | .reg s => if s = barS then some none else none
  | .dma q => if h : 6 ≤ q.val ∧ q.val - 6 < 24 then some (some (false, keyOf (q.val - 6) h.2))
      else if h : 30 ≤ q.val ∧ q.val - 30 < 24 then some (some (true, keyOf (q.val - 30) h.2))
      else none

theorem keyOf_eq (r : Fin 6) (g : Fin 4) (n : ℕ) (hn : n = 4 * r.val + g.val) (h : n < 24) : keyOf n h = (r, g) := by
  subst hn
  exact Prod.ext (Fin.ext (by show (4 * r.val + g.val) / 4 = r.val; omega)) (Fin.ext (by show (4 * r.val + g.val) % 4 = g.val; omega))

theorem dec_csem : ∀ i : CI, dec (csem i) = some i
  | none => by unfold csem dec; exact if_pos rfl
  | some (false, (r, g)) => by
      have e := sS_val r g
      unfold csem dec; dsimp only
      rw [dif_pos ⟨by omega, by omega⟩, keyOf_eq r g _ (by omega)]
  | some (true, (r, g)) => by
      have e := rS_val r g
      unfold csem dec; dsimp only
      rw [dif_neg (fun h => by omega), dif_pos ⟨by omega, by omega⟩, keyOf_eq r g _ (by omega)]

theorem csem_inj {i j : CI} (h : csem i = csem j) : i = j := Option.some.inj (by rw [← dec_csem i, ← dec_csem j, h])

abbrev kcell (ci : Dev nD × CI) : GSem nD τ sig := ((ci.1 : Thread nD τ), csem ci.2)
abbrev barCell (c : Dev nD) : GSem nD τ sig := ((c : Thread nD τ), .reg barS)
abbrev sendCell (c : Dev nD) (k : Key) : GSem nD τ sig := ((c : Thread nD τ), .dma (sS k.1 k.2))
abbrev recvCell (c : Dev nD) (k : Key) : GSem nD τ sig := ((c : Thread nD τ), .dma (rS k.1 k.2))

theorem kcell_injective : Function.Injective (kcell : Dev nD × CI → GSem nD τ sig) := by
  rintro ⟨c, i⟩ ⟨c', i'⟩ h
  have h1 : c = c' := congrArg (fun g : GSem nD τ sig => g.1.1) h
  exact Prod.ext h1 (csem_inj (congrArg Prod.snd h))

/-- What one transfer moves. -/
abbrev N : ℕ := (rP 0 0).view.dmaCredit
theorem N_pos : 0 < N := View.dmaCredit_pos _ (by decide)
theorem N_rP (r : Fin 6) (g : Fin 4) : (rP r g).view.dmaCredit = N := rfl
theorem N_srcP (r : Fin 6) (g : Fin 4) : (srcP r g).view.dmaCredit = N := by
  match r with
  | 0 => rfl
  | 1 => rfl
  | 2 => rfl
  | 3 => rfl
  | 4 => rfl
  | 5 => rfl

/-! ## The pieces held -/

abbrev mLoc (c : Dev nD) : Loc nD τ sig := (c : Thread nD τ).loc cc0_scratch0
abbrev rLoc (c : Dev nD) : Loc nD τ sig := (c : Thread nD τ).loc cc0_scratch1

/-- Group `g` of batch `b` of device `c`'s own context. -/
def mPts (c : Dev nD) (b : Fin 2) (g : Fin 4) (q : PosShare TreeShare) (f : (cc0_scratch0 : Ref sig .tc).ty.Contents (Elt F)) : sProp 𝕄 :=
  mLoc c ↦[(mR b g).set]{q} f
/-- Group `g` of device `c`'s landing row `r`. -/
def rPts (c : Dev nD) (r : Fin 6) (g : Fin 4) (q : PosShare TreeShare) (f : (cc0_scratch1 : Ref sig .tc).ty.Contents (Elt F)) : sProp 𝕄 :=
  rLoc c ↦[(rR r g).set]{q} f

omit [FloatOps F] in
instance mPts_storable (c b g q f) : BI.Storable (upEmb : UEmb _ 𝕄) (mPts (F := F) c b g q f) := by unfold mPts; infer_instance
omit [FloatOps F] in
instance rPts_storable (c r g q f) : BI.Storable (upEmb : UEmb _ 𝕄) (rPts (F := F) c r g q f) := by unfold rPts; infer_instance

variable (I : Inp F)

/-- The share of its source a transfer holds while it runs. -/
def shr : Fin 6 → PosShare TreeShare
  | 0 => fullShare.left
  | 1 => fullShare.right.left
  | 2 => fullShare.left
  | 3 => fullShare.left
  | 4 => fullShare.right.left
  | 5 => fullShare.left

/-- Row `r`'s source on device `c`, holding what is sent. -/
def srcPts (c : Dev nD) : Fin 6 → Fin 4 → PosShare TreeShare → sProp 𝕄
  | 0, g, q => mPts c 0 g q (mineF I c)
  | 1, g, q => mPts c 0 g q (mineF I c)
  | 2, g, q => rPts c 0 g q (recvF I c)
  | 3, g, q => mPts c 1 g q (mineF I c)
  | 4, g, q => mPts c 1 g q (mineF I c)
  | 5, g, q => rPts c 3 g q (recvF I c)

instance srcPts_storable (c r g q) : BI.Storable (upEmb : UEmb _ 𝕄) (srcPts I c r g q) := by
  match r with
  | 0 => exact mPts_storable ..
  | 1 => exact mPts_storable ..
  | 2 => exact rPts_storable ..
  | 3 => exact mPts_storable ..
  | 4 => exact mPts_storable ..
  | 5 => exact rPts_storable ..

/-! ## The schedule -/

/-- Which rows go to the right. -/
def toR : Fin 6 → Bool
  | 0 => true
  | 1 => false
  | 2 => true
  | 3 => false
  | 4 => true
  | 5 => false
def dirK (d : Bool) : Finset Key := Finset.univ.filter fun k => toR k.1 = d

theorem tgt_toR (k : Key) (d : Bool) (h : k ∈ dirK d) (c : Dev nD) : tgt k.1 c = if d then rgt c else lft c := by
  revert k d c; decide

/-- What a neighbour's unit hands device `c`: the pieces of the neighbour's landing rows that `c` writes. -/
def barPay (c : Dev nD) (d : Bool) : sProp 𝕄 :=
  bigSep (dirK d) fun k => iprop(∃ f, rPts (F := F) (tgt k.1 c) k.1 k.2 fullShare f)
def recvPay (c : Dev nD) (k : Key) : sProp 𝕄 := rPts c k.1 k.2 fullShare (recvF I c)
def sendPay (c : Dev nD) (k : Key) : sProp 𝕄 := srcPts I c k.1 k.2 (shr k.1)

def payOf (c : Dev nD) (d : Bool) : Option CI → sProp 𝕄
  | some none => barPay c d
  | some (some (false, k)) => sendPay I c k
  | some (some (true, k)) => recvPay I c k
  | none => iprop(emp)
def dutyOf : Option CI → Finset Bool
  | some none => Finset.univ
  | some (some _) => {false}
  | none => ∅
def amtOf : Option CI → ℕ
  | some none => 1
  | some (some _) => N
  | none => 1
def lvlOf : Option CI → ℕ
  | some none => 1
  | some (some (true, (0, _))) => 2
  | some (some (true, (1, _))) => 2
  | some (some (true, (2, _))) => 3
  | some (some (true, (3, _))) => 3
  | some (some (true, (4, _))) => 3
  | some (some (true, (5, _))) => 4
  | _ => 0

def Rd : Rounds.Schedule (GSem nD τ sig) Bool 𝕄 where
  duties g r := if r = 0 ∧ g.1.2 = .tc then dutyOf (dec g.2) else ∅
  unitless _ := False
  amount g _ _ := amtOf (dec g.2)
  payload g _ d := payOf I g.1.1 d (dec g.2)
  amount_pos g _ _ _ := by
    rcases dec g.2 with _ | _ | _
    · exact Nat.one_pos
    · exact Nat.one_pos
    · exact N_pos

instance Rd_storable (g : GSem nD τ sig) (r : ℕ) (d : Bool) : BI.Storable (upEmb : UEmb _ 𝕄) ((Rd I).payload g r d) := by
  show BI.Storable upEmb (payOf I g.1.1 d (dec g.2))
  rcases dec g.2 with _ | _ | ⟨_ | _, k⟩ <;> unfold payOf barPay recvPay sendPay <;> infer_instance

theorem duties_cell (c : Dev nD) (i : CI) : (Rd I).duties (kcell (c, i)) 0 = dutyOf (some i) := by
  show (if (0 : ℕ) = 0 ∧ (c : Thread nD τ).2 = .tc then dutyOf (dec (csem i)) else ∅) = _
  rw [dec_csem]; exact if_pos ⟨rfl, rfl⟩
theorem amount_cell (c : Dev nD) (i : CI) (d : Bool) : (Rd I).amount (kcell (c, i)) 0 d = amtOf (some i) := by
  show amtOf (dec (csem i)) = _; rw [dec_csem]
theorem payload_cell (c : Dev nD) (i : CI) (d : Bool) : (Rd I).payload (kcell (c, i)) 0 d = payOf I c d (some i) := by
  show payOf I c d (dec (csem i)) = _; rw [dec_csem]
theorem duties_later (g : GSem nD τ sig) : ∀ r, 1 ≤ r → (Rd I).duties g r = ∅ :=
  fun r hr => if_neg fun h => by omega

theorem duties_bar (c : Dev nD) : (Rd I).duties (barCell c) 0 = Finset.univ := duties_cell I c none
theorem duties_send (c : Dev nD) (k : Key) : (Rd I).duties (sendCell c k) 0 = {false} := duties_cell I c (some (false, k))
theorem duties_recv (c : Dev nD) (k : Key) : (Rd I).duties (recvCell c k) 0 = {false} := duties_cell I c (some (true, k))
theorem amount_bar (c : Dev nD) (d : Bool) : (Rd I).amount (barCell c) 0 d = 1 := amount_cell I c none d
theorem amount_send (c : Dev nD) (k : Key) (d : Bool) : (Rd I).amount (sendCell c k) 0 d = N := amount_cell I c (some (false, k)) d
theorem amount_recv (c : Dev nD) (k : Key) (d : Bool) : (Rd I).amount (recvCell c k) 0 d = N := amount_cell I c (some (true, k)) d
theorem payload_bar (c : Dev nD) (d : Bool) : (Rd I).payload (barCell c) 0 d = barPay c d := payload_cell I c none d
theorem payload_send (c : Dev nD) (k : Key) (d : Bool) : (Rd I).payload (sendCell c k) 0 d = sendPay I c k := payload_cell I c (some (false, k)) d
theorem payload_recv (c : Dev nD) (k : Key) (d : Bool) : (Rd I).payload (recvCell c k) 0 d = recvPay I c k := payload_cell I c (some (true, k)) d

theorem expect_bar (c : Dev nD) : (Rd I).expect (barCell c) 0 = 2 := by
  unfold Schedule.expect Schedule.amountOf
  rw [duties_bar, Finset.sum_congr rfl fun d _ => amount_bar I c d, Finset.sum_const, Finset.card_univ, Fintype.card_bool, smul_eq_mul]
theorem expect_send (c : Dev nD) (k : Key) : (Rd I).expect (sendCell c k) 0 = N := by
  unfold Schedule.expect Schedule.amountOf; rw [duties_send, Finset.sum_singleton, amount_send]
theorem expect_recv (c : Dev nD) (k : Key) : (Rd I).expect (recvCell c k) 0 = N := by
  unfold Schedule.expect Schedule.amountOf; rw [duties_recv, Finset.sum_singleton, amount_recv]

/-- A barrier round's payloads: every landing piece this device will write. -/
theorem rest_bar (c : Dev nD) : bigSep ((Rd I).duties (barCell c) 0 \ ∅) (fun d => (Rd I).payload (barCell c) 0 d)
    = bigSep Finset.univ fun k : Key => iprop(∃ f, rPts (F := F) (tgt k.1 c) k.1 k.2 fullShare f) := by
  rw [Finset.sdiff_empty, duties_bar, bigSep_congr fun d _ => payload_bar I c d,
    bigSep_univ_eq_bigSepL [false, true] (by decide) (by decide), bigSepL_cons_cons, bigSepL_singleton]
  unfold barPay
  rw [← bigSep_union (show Disjoint (dirK false) (dirK true) by decide),
    show dirK false ∪ dirK true = Finset.univ by decide]
theorem rest_send (c : Dev nD) (k : Key) :
    bigSep ((Rd I).duties (sendCell c k) 0 \ ∅) (fun d => (Rd I).payload (sendCell c k) 0 d) = sendPay I c k := by
  rw [Finset.sdiff_empty, duties_send, bigSep_singleton, payload_send]
theorem rest_recv (c : Dev nD) (k : Key) :
    bigSep ((Rd I).duties (recvCell c k) 0 \ ∅) (fun d => (Rd I).payload (recvCell c k) 0 d) = recvPay I c k := by
  rw [Finset.sdiff_empty, duties_recv, bigSep_singleton, payload_recv]

/-! ## The transfers in program order; what a device owes -/

/-- When each transfer starts. -/
def time (k : Key) : ℕ := match k.1 with
  | 0 => 2 * k.2.val
  | 1 => 2 * k.2.val + 1
  | 2 => 8 + (3 * k.2.val + 2)
  | 3 => 8 + 3 * k.2.val
  | 4 => 8 + (3 * k.2.val + 1)
  | 5 => 20 + k.2.val
/-- The transfers not started before time `n`. -/
def toSend (n : ℕ) : Finset Key := Finset.univ.filter fun k => n ≤ time k
theorem toSend_step (k : Key) : toSend (time k) = insert k (toSend (time k + 1)) ∧ k ∉ toSend (time k + 1) := by
  revert k; decide
theorem toSend_zero : toSend 0 = Finset.univ := by decide
theorem toSend_last : toSend 24 = ∅ := by decide

/-- When each landing is waited for. -/
def rtime (k : Key) : ℕ := match k.1 with
  | 0 => k.2.val
  | 1 => 8 + k.2.val
  | 2 => 16 + k.2.val
  | 3 => 4 + k.2.val
  | 4 => 12 + k.2.val
  | 5 => 20 + k.2.val
def toRecv (n : ℕ) : Finset Key := Finset.univ.filter fun k => n ≤ rtime k
theorem toRecv_step (k : Key) : toRecv (rtime k) = insert k (toRecv (rtime k + 1)) ∧ k ∉ toRecv (rtime k + 1) := by
  revert k; decide
theorem toRecv_zero : toRecv 0 = Finset.univ := by decide
theorem toRecv_last : toRecv 24 = ∅ := by decide

/-- When each source is waited for at the end. -/
def wtime (k : Key) : ℕ := 6 * k.2.val + k.1.val
def toFree (n : ℕ) : Finset Key := Finset.univ.filter fun k => n ≤ wtime k
theorem toFree_step (k : Key) : toFree (wtime k) = insert k (toFree (wtime k + 1)) ∧ k ∉ toFree (wtime k + 1) := by
  revert k; decide
theorem toFree_zero : toFree 0 = Finset.univ := by decide
theorem toFree_last : toFree 24 = ∅ := by decide

/-- What device `c` still owes the receive cells before its transfer number `n`. -/
def Os (c : Dev nD) (n : ℕ) : CellTallies nD τ sig Unit := ∑ k ∈ toSend n, tallyAt (recvCell (tgt k.1 c) k) () N
theorem Os_step (c : Dev nD) (k : Key) : Os c (time k) = Os c (time k + 1) + tallyAt (recvCell (tgt k.1 c) k) () N := by
  unfold Os; rw [(toSend_step k).1, Finset.sum_insert (toSend_step k).2, add_comm]
theorem Os_last (c : Dev nD) : Os c 24 = 0 := by unfold Os; rw [toSend_last, Finset.sum_empty]

def O₁ (c : Dev nD) : CellTallies nD τ sig Unit := Os c 0 + tallyAt (barCell (rgt c)) () 1
def O₀ (c : Dev nD) : CellTallies nD τ sig Unit := O₁ c + tallyAt (barCell (lft c)) () 1

def L (g : GSem nD τ sig) : Finset Unit := if g.1.2 = .tc then {()} else ∅
def lv (g : GSem nD τ sig) (_ : Unit) : ℕ := lvlOf (dec g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (i : CI) : lv (kcell (c, i)) () = lvlOf (some i) := by
  show lvlOf (dec (csem i)) = _; rw [dec_csem]

theorem Os_pos {c : Dev nD} {n : ℕ} {g : GSem nD τ sig} {u : Unit} (h : 0 < Os c n g u) :
    ∃ k ∈ toSend n, g = recvCell (tgt k.1 c) k := by
  unfold Os at h
  rw [Finset.sum_apply, Finsupp.finset_sum_apply] at h
  obtain ⟨k, hk, hp⟩ := Finset.exists_ne_zero_of_sum_ne_zero (Nat.pos_iff_ne_zero.mp h)
  refine ⟨k, hk, ?_⟩
  by_contra hn
  rw [tallyAt_apply, if_neg (fun h' => hn h'.1)] at hp
  exact hp rfl

theorem pos_cases {a x y : ℕ} (h : 0 < a + x + y) : 0 < a ∨ 0 < x ∨ 0 < y := by omega
theorem tally_pos {g g' : GSem nD τ sig} {u : Unit} {n : ℕ} (h : 0 < tallyAt (Ix := Unit) g () n g' u) : g' = g := by
  by_contra hn
  rw [tallyAt_apply, if_neg (fun h' => hn h'.1)] at h
  exact absurd h (Nat.lt_irrefl 0)

theorem lvlOf_recv (k : Key) : 1 ≤ lvlOf (some (some (true, k))) := by revert k; decide

theorem O₀_pos {c : Dev nD} {g : GSem nD τ sig} {u : Unit} (h : 0 < O₀ c g u) : ∃ (p : Dev nD × CI), g = kcell p ∧ 1 ≤ lvlOf (some p.2) := by
  unfold O₀ O₁ at h
  rw [Pi.add_apply, Finsupp.add_apply, Pi.add_apply, Finsupp.add_apply] at h
  rcases pos_cases h with h | h | h
  · obtain ⟨k, -, e⟩ := Os_pos h
    exact ⟨(tgt k.1 c, some (true, k)), e, lvlOf_recv k⟩
  · exact ⟨(rgt c, none), tally_pos h, Nat.le_refl 1⟩
  · exact ⟨(lft c, none), tally_pos h, Nat.le_refl 1⟩

/-- A semaphore at level 0 may be waited for whatever of its dues a device still owes. -/
theorem mayWait_low (c : Dev nD) (q : SemLoc sig) (hq : lvlOf (dec q) = 0) (O : CellTallies nD τ sig Unit) (hO : O = O₀ c ∨ O = 0) :
    (levAts L lv : sProp 𝕄) ⊢ MayWait (c : Thread nD τ) q () O := by
  rcases hO with rfl | rfl
  · refine MayOwe.of_cut (L := L) (lev := lv) 0 (fun p hp => by rw [Finset.mem_singleton.mp hp, L_tc]; exact Finset.mem_singleton_self _)
      (fun g u hg => by obtain ⟨p, rfl, -⟩ := O₀_pos hg; exact Finset.mem_singleton_self _)
      (fun p hp => by rw [Finset.mem_singleton.mp hp]; exact hq.le)
      (fun g u hg => by obtain ⟨⟨d, i⟩, rfl, hi⟩ := O₀_pos hg; rw [lv_cell]; exact hi)
  · rw [MayWait_zero]; iintro -; iempintro

/-- A cell below every receive cell still owed may be waited for. -/
theorem mayWait_cell (c : Dev nD) (i : CI) (n : ℕ) (h : ∀ k ∈ toSend n, lvlOf (some i) < lvlOf (some (some (true, k)))) :
    (levAts L lv : sProp 𝕄) ⊢ MayWait (c : Thread nD τ) (csem i) () (Os c n) :=
  MayOwe.of_cut (L := L) (lev := lv) (lvlOf (some i)) (fun p hp => by rw [Finset.mem_singleton.mp hp, L_tc]; exact Finset.mem_singleton_self _)
    (fun g u hg => by obtain ⟨k, -, rfl⟩ := Os_pos hg; exact Finset.mem_singleton_self _)
    (fun p hp => by rw [Finset.mem_singleton.mp hp]; exact (lv_cell c i).le)
    (fun g u hg => by obtain ⟨k, hk, rfl⟩ := Os_pos hg; exact (h k hk).trans_eq (lv_cell (tgt k.1 c) (some (true, k))).symm)

end Cert.KernelIdeal.Own
-- ==== Proof.StepsI.lean ====
/-
# The steps: one rule per kind of operation

Each rule advances the bookkeeping `core c ns nr` (transfers started before time `ns`, landings waited for before time
`nr`): a start turns a source share into a send credit, a wait for a landing gives the landed piece, a wait for a
source gives the share back.
-/
module

public import proofs.«01_k».proof.Proof.ProtoI

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (I : Inp F) (K : Dev nD × CI → ℕ)

/-- The program's specification on device `c`. -/
abbrev WP {α : Type} (c : Dev nD) (p : Prog (E F) α) (Q : α → sProp 𝕄) : sProp 𝕄 :=
  wp frame (wpE (defs₀ (F := F)) 𝒱₀ (c : Thread nD τ) none) Set.univ p Q

theorem bigSep_ins {A : Type} [DecidableEq A] {s : Finset A} {a : A} (h : a ∉ s) (Φ : A → sProp 𝕄) :
    bigSep (insert a s) Φ = iprop(Φ a ∗ bigSep s Φ) := BI.bigSep_insert h
theorem bigSep_pick {A : Type} [DecidableEq A] [Fintype A] (Φ : A → sProp 𝕄) (a : A) : bigSep Finset.univ Φ ⊢ Φ a :=
  bigSep_elim (Finset.mem_univ a)

/-- Every cell's invariant, and that its round is reached. -/
def records : sProp 𝕄 :=
  iprop((bigSep Finset.univ fun ci : Dev nD × CI => cellInv ER (Rd I) (K ci) (kcell ci))
    ∗ bigSep Finset.univ fun ci : Dev nD × CI => reached ER (kcell ci) 0)
instance records_persistent : BI.Persistent (records I K) := by unfold records; infer_instance
/-- What every step may use. -/
def ctx : sProp 𝕄 := iprop(records I K ∗ levAts L lv)
instance ctx_persistent : BI.Persistent (ctx I K) := by unfold ctx; infer_instance

theorem ctx_inv (ci : Dev nD × CI) : ctx I K ⊢ cellInv ER (Rd I) (K ci) (kcell ci) := by
  unfold ctx records
  iintro ⟨⟨HI, -⟩, -⟩
  iapply (bigSep_pick (fun ci : Dev nD × CI => cellInv ER (Rd I) (K ci) (kcell ci)) ci); iexact HI
theorem ctx_reached (ci : Dev nD × CI) : ctx I K ⊢ reached ER (kcell ci) 0 := by
  unfold ctx records
  iintro ⟨⟨-, HR⟩, -⟩
  iapply (bigSep_pick (fun ci : Dev nD × CI => (reached ER (kcell ci) 0 : sProp 𝕄)) ci); iexact HR
theorem ctx_lev : ctx I K ⊢ (levAts L lv : sProp 𝕄) := by
  unfold ctx
  iintro ⟨-, H⟩; iexact H

/-- What starting transfer `k` takes besides its source. -/
def startRes (c : Dev nD) (k : Key) : sProp 𝕄 :=
  iprop(dutyTok ER (sendCell c k) 0 false ∗ dutyTok ER (recvCell (tgt k.1 c) k) 0 false
    ∗ ∃ f, rPts (F := F) (tgt k.1 c) k.1 k.2 fullShare f)

def core (c : Dev nD) (ns nr : ℕ) : sProp 𝕄 :=
  iprop((bigSep (toSend ns) fun k => startRes c k)
    ∗ (bigSep (toSend ns)ᶜ fun k => cred (tallyAt (sendCell c k) () N))
    ∗ (bigSep (toRecv nr) fun k => iprop(cred (tallyAt (recvCell c k) () N) ∗ atPos ER (recvCell c k) 0 ∅ 0))
    ∗ (bigSep (toRecv nr)ᶜ fun k => semVal (recvCell c k) 0)
    ∗ ∃ W, owes (c : Thread nD τ) (Os c ns) W)

theorem toSend_compl (k : Key) : (toSend (time k + 1))ᶜ = insert k (toSend (time k))ᶜ ∧ k ∉ (toSend (time k))ᶜ := by
  revert k; decide
theorem toRecv_compl (k : Key) : (toRecv (rtime k + 1))ᶜ = insert k (toRecv (rtime k))ᶜ ∧ k ∉ (toRecv (rtime k))ᶜ := by
  revert k; decide
theorem toFree_compl (k : Key) : (toFree (wtime k + 1))ᶜ = insert k (toFree (wtime k))ᶜ ∧ k ∉ (toFree (wtime k))ᶜ := by
  revert k; decide

theorem toSend_sep (k : Key) (Φ : Key → sProp 𝕄) : bigSep (toSend (time k)) Φ = iprop(Φ k ∗ bigSep (toSend (time k + 1)) Φ) := by
  rw [(toSend_step k).1, bigSep_ins (toSend_step k).2]
theorem toSend_sepc (k : Key) (Φ : Key → sProp 𝕄) : bigSep (toSend (time k + 1))ᶜ Φ = iprop(Φ k ∗ bigSep (toSend (time k))ᶜ Φ) := by
  rw [(toSend_compl k).1, bigSep_ins (toSend_compl k).2]
theorem toRecv_sep (k : Key) (Φ : Key → sProp 𝕄) : bigSep (toRecv (rtime k)) Φ = iprop(Φ k ∗ bigSep (toRecv (rtime k + 1)) Φ) := by
  rw [(toRecv_step k).1, bigSep_ins (toRecv_step k).2]
theorem toRecv_sepc (k : Key) (Φ : Key → sProp 𝕄) : bigSep (toRecv (rtime k + 1))ᶜ Φ = iprop(Φ k ∗ bigSep (toRecv (rtime k))ᶜ Φ) := by
  rw [(toRecv_compl k).1, bigSep_ins (toRecv_compl k).2]
theorem toFree_sep (k : Key) (Φ : Key → sProp 𝕄) : bigSep (toFree (wtime k)) Φ = iprop(Φ k ∗ bigSep (toFree (wtime k + 1)) Φ) := by
  rw [(toFree_step k).1, bigSep_ins (toFree_step k).2]
theorem toFree_sepc (k : Key) (Φ : Key → sProp 𝕄) : bigSep (toFree (wtime k + 1))ᶜ Φ = iprop(Φ k ∗ bigSep (toFree (wtime k))ᶜ Φ) := by
  rw [(toFree_compl k).1, bigSep_ins (toFree_compl k).2]

/-! ## Starting a transfer -/

theorem orig_tgt (r : Fin 6) (c : Dev nD) : orig r (tgt r c) = match r with
    | 0 => c | 1 => c | 2 => orig 0 c | 3 => c | 4 => c | 5 => orig 3 c := by
  revert r c; decide

theorem send_gen (c : Dev nD) (r : Fin 6) (g : Fin 4) (src : Memref sig .tc .vmem S512x128 .bf16)
    (fs : Buf (Elt F) (src.view.loc (c : Thread nD τ)))
    (hpay : (srcPts I c r g (shr r) : sProp 𝕄) = (src.view.loc (c : Thread nD τ) ↦[src.view.set]{shr r} fs))
    (hread : src.view.read (Elt F) fs = (mP (bat r) g).view.read (Elt F) (mineF I (orig r (tgt r c))))
    {hsc : (rP r g).view.ref.isScScratch = false} {hsrc : src.view.WordExact} {hdst : (rP r g).view.WordExact}
    {hsem : DmaTarget.Typed .vmem (.dma (rS r g)) (.remote (Dev.tc (tgt r c) : Thread nD τ) (rP r g) (.dma (sS r g)) hsc)}
    (nr : ℕ) (Q : PUnit → sProp 𝕄) :
    iprop(ctx I K ∗ core c (time (r, g)) nr ∗ srcPts I c r g (shr r) ∗ (core c (time (r, g) + 1) nr -∗ Q ⟨⟩))
      ⊢ WP c (.op (.enqueueDma src (.remote (Dev.tc (tgt r c) : Thread nD τ) (rP r g) (.dma (sS r g)) hsc) (.dma (rS r g)) hsrc hdst hsem) .ret) Q := by
  have hland (fd) : ((rP r g).view.loc (tgt r c : Thread nD τ) ↦[(rP r g).view.set]{fullShare}
      ((rP r g).view.write (Elt F) fd (src.view.read (Elt F) fs) Finset.univ) : sProp 𝕄) ⊢ recvPay I (tgt r c) (r, g) := by
    unfold recvPay rPts
    refine Entails.of_eq ?_
    rw [pointsTo_congr (g := recvF I (tgt r c)) (fun i hi => land I (tgt r c) r g fd _ hread i hi), rP_set]
  have hd₁ : false ∈ (Rd I).duties (sendCell c (r, g)) 0 := by rw [duties_send]; exact Finset.mem_singleton_self _
  have hd₂ : false ∈ (Rd I).duties (recvCell (tgt r c) (r, g)) 0 := by rw [duties_recv]; exact Finset.mem_singleton_self _
  unfold core
  rw [toSend_sep, toSend_sepc, hpay]
  unfold startRes
  iintro ⟨#Hc, ⟨⟨⟨HtS, HtR, ⟨%fd, Hd⟩⟩, Hp⟩, Hs, Ha, Hz, ⟨%W, HO⟩⟩, Hsrc, Hk⟩
  iapply (Rounds.wp_send_pointsTo 𝒱₀ ER (Rd I) (c : Thread nD τ) none (κ₁ := K (c, some (false, (r, g)))) (κ₂ := K (tgt r c, some (true, (r, g))))
      (r₁ := 0) (r₂ := 0) (d₁ := false) (d₂ := false) (fs := fs) (fd := fd) (q := shr r) hd₁ hd₂
      () () N (N_rP r g) (amount_send I c (r, g) false) (amount_recv I (tgt r c) (r, g) false) (Os c (time (r, g) + 1)) (Os_step c (r, g)) (W := W)
      (by rw [payload_send, ← hpay]; exact BI.Entails.refl _)
      (by rw [payload_recv I (tgt r c) (r, g)]; exact hland fd))
    $$ [HtS HtR Hd HO Hsrc]
  · isplitr; · iapply (ctx_inv I K (c, some (false, (r, g)))); iexact Hc
    isplitr; · iapply (ctx_inv I K (tgt r c, some (true, (r, g)))); iexact Hc
    isplitl [Hsrc]; · iexact Hsrc
    isplitl [Hd]; · unfold rPts; rw [rP_set]; iexact Hd
    isplitl [HO]; · iexact HO
    isplitl [HtS]; · iexact HtS
    isplitr; · iapply (ctx_reached I K (c, some (false, (r, g)))); iexact Hc
    isplitl [HtR]; · iexact HtR
    iapply (ctx_reached I K (tgt r c, some (true, (r, g)))); iexact Hc
  iintro ⟨Hcr, HO⟩
  rw [wp_ret]; imodintro
  iapply Hk
  isplitl [Hp]; · iexact Hp
  isplitl [Hs Hcr]
  · isplitl [Hcr] <;> iassumption
  isplitl [Ha]; · iexact Ha
  isplitl [Hz]; · iexact Hz
  iexists W; iexact HO

theorem mPts_view (c : Dev nD) (b : Fin 2) (g : Fin 4) (q : PosShare TreeShare) :
    (mPts c b g q (mineF I c) : sProp 𝕄) = ((mP b g).view.loc (c : Thread nD τ) ↦[(mP b g).view.set]{q} (mineF I c)) := by
  unfold mPts; rw [mP_set]
theorem rPts_view (c : Dev nD) (r : Fin 6) (g : Fin 4) (q : PosShare TreeShare) :
    (rPts c r g q (recvF I c) : sProp 𝕄) = ((rP r g).view.loc (c : Thread nD τ) ↦[(rP r g).view.set]{q} (recvF I c)) := by
  unfold rPts; rw [rP_set]

theorem start_wp (c : Dev nD) (r : Fin 6) (g : Fin 4) (nr : ℕ) (Q : PUnit → sProp 𝕄) :
    iprop(ctx I K ∗ core c (time (r, g)) nr ∗ srcPts I c r g (shr r) ∗ (core c (time (r, g) + 1) nr -∗ Q ⟨⟩)) ⊢ WP c (startP c r g) Q := by
  match r with
  | 0 => exact send_gen I K c 0 g (mP 0 g) (mineF I c) (mPts_view I c 0 g _) (by rw [orig_tgt]; rfl) nr Q
  | 1 => exact send_gen I K c 1 g (mP 0 g) (mineF I c) (mPts_view I c 0 g _) (by rw [orig_tgt]; rfl) nr Q
  | 2 => exact send_gen I K c 2 g (rP 0 g) (recvF I c) (rPts_view I c 0 g _) (by rw [orig_tgt, read_recv]; rfl) nr Q
  | 3 => exact send_gen I K c 3 g (mP 1 g) (mineF I c) (mPts_view I c 1 g _) (by rw [orig_tgt]; rfl) nr Q
  | 4 => exact send_gen I K c 4 g (mP 1 g) (mineF I c) (mPts_view I c 1 g _) (by rw [orig_tgt]; rfl) nr Q
  | 5 => exact send_gen I K c 5 g (rP 3 g) (recvF I c) (rPts_view I c 3 g _) (by rw [orig_tgt, read_recv]; rfl) nr Q

/-! ## Waiting for a landing -/

theorem waitRecv_wp (c : Dev nD) (r : Fin 6) (g : Fin 4) (ns : ℕ)
    (h : ∀ k ∈ toSend ns, lvlOf (some (some (true, (r, g)))) < lvlOf (some (some (true, k)))) (Q : PUnit → sProp 𝕄) :
    iprop(ctx I K ∗ core c ns (rtime (r, g)) ∗ (core c ns (rtime (r, g) + 1) ∗ rPts c r g fullShare (recvF I c) -∗ Q ⟨⟩)) ⊢ WP c (waitRecvP r g) Q := by
  unfold core
  rw [toRecv_sep, toRecv_sepc]
  simp only [waitRecvP, Prog.lift]
  iintro ⟨#Hc, ⟨Hp, Hs, ⟨⟨Hcr, Hat⟩, Ha⟩, Hz, ⟨%W, HO⟩⟩, Hk⟩
  iapply (Rounds.wp_wait_rest_token 𝒱₀ ER (Rd I) (c : Thread nD τ) none (κ := K (c, some (true, (r, g))))
      (wpE_waitDma2_eq 𝒱₀ (c : Thread nD τ) none Set.univ) (Set.mem_univ _) () (O := Os c ns) (W := W) (R := 0) (m := 0) (T := ∅)
      (by rw [Nat.zero_add, expect_recv I c (r, g)])) $$ [Hcr HO Hat]
  · isplitr; · iapply (ctx_inv I K (c, some (true, (r, g)))); iexact Hc
    isplitl [Hcr]; · iexact Hcr
    isplitl [HO]; · iexact HO
    isplitr; · iapply (mayWait_cell c (some (true, (r, g))) ns h); iapply (ctx_lev I K); iexact Hc
    iexact Hat
  iintro ⟨HO, Hat, -, Hpay⟩
  ihave Hpay := (Entails.of_eq (rest_recv I c (r, g))) $$ Hpay
  imod (Rounds.cell_close ER (Rd I) (Set.mem_univ (K (c, some (true, (r, g))))) (fun h => h) (R := 0 + 1) (duties_later I (recvCell c (r, g)))) $$ [Hat] with Hv
  · isplitr; · iapply (ctx_inv I K (c, some (true, (r, g)))); iexact Hc
    iexact Hat
  rw [wp_ret]; imodintro
  iapply Hk
  unfold recvPay
  isplitr [Hpay]
  · isplitl [Hp]; · iexact Hp
    isplitl [Hs]; · iexact Hs
    isplitl [Ha]; · iexact Ha
    isplitl [Hz Hv]
    · isplitl [Hv] <;> iassumption
    iexists _; iexact HO
  iexact Hpay

/-! ## Waiting for a source -/

/-- The send cells before the waits of time `n`: those ahead to be waited for, those behind closed and their shares back. -/
def fin (c : Dev nD) (n : ℕ) : sProp 𝕄 :=
  iprop((bigSep (toFree n) fun k => iprop(cred (tallyAt (sendCell c k) () N) ∗ atPos ER (sendCell c k) 0 ∅ 0))
    ∗ (bigSep (toFree n)ᶜ fun k => iprop(semVal (sendCell c k) 0 ∗ sendPay I c k))
    ∗ ∃ W, owes (c : Thread nD τ) 0 W)

theorem waitSend_wp (c : Dev nD) (r : Fin 6) (g : Fin 4) (Q : PUnit → sProp 𝕄) :
    iprop(ctx I K ∗ fin I c (wtime (r, g)) ∗ (fin I c (wtime (r, g) + 1) -∗ Q ⟨⟩)) ⊢ WP c (waitSendP r g) Q := by
  unfold fin
  rw [toFree_sep, toFree_sepc]
  simp only [waitSendP, Prog.lift]
  iintro ⟨#Hc, ⟨⟨⟨Hcr, Hat⟩, Ha⟩, Hz, ⟨%W, HO⟩⟩, Hk⟩
  iapply (Rounds.wp_wait_rest_token 𝒱₀ ER (Rd I) (c : Thread nD τ) none (κ := K (c, some (false, (r, g))))
      (wpE_waitDma2_eq 𝒱₀ (c : Thread nD τ) none Set.univ) (Set.mem_univ _) () (O := 0) (W := W) (R := 0) (m := 0) (T := ∅)
      (by rw [Nat.zero_add, expect_send I c (r, g)])) $$ [Hcr HO Hat]
  · isplitr; · iapply (ctx_inv I K (c, some (false, (r, g)))); iexact Hc
    isplitl [Hcr]; · rw [N_srcP]; iexact Hcr
    isplitl [HO]; · iexact HO
    isplitr; · rw [MayWait_zero]; iempintro
    iexact Hat
  iintro ⟨HO, Hat, -, Hpay⟩
  ihave Hpay := (Entails.of_eq (rest_send I c (r, g))) $$ Hpay
  imod (Rounds.cell_close ER (Rd I) (Set.mem_univ (K (c, some (false, (r, g))))) (fun h => h) (R := 0 + 1) (duties_later I (sendCell c (r, g)))) $$ [Hat] with Hv
  · isplitr; · iapply (ctx_inv I K (c, some (false, (r, g)))); iexact Hc
    iexact Hat
  rw [wp_ret]; imodintro
  iapply Hk
  isplitl [Ha]; · iexact Ha
  isplitl [Hz Hv Hpay]
  · isplitl [Hv Hpay]
    · isplitl [Hv] <;> iassumption
    iexact Hz
  iexists _; iexact HO

end Cert.KernelIdeal.Own
-- ==== Proof.BodyI.lean ====
/-
# The body

The steps' rules composed in program order: the heads, the three phases, the rows, the whole body on device `c`.
-/
module

public import proofs.«01_k».proof.Proof.StepsI

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-! ## The staging buffers -/

def xPts (c : Dev nD) : sProp 𝕄 := (c : Thread nD τ).loc cc0_stg0_0 ↦{fullShare} I.x c
def wqPts (c : Dev nD) : sProp 𝕄 := (c : Thread nD τ).loc cc0_stg1_0 ↦{fullShare} I.wq c
def kPts (c : Dev nD) : sProp 𝕄 := (c : Thread nD τ).loc cc0_stg2_0 ↦{fullShare} I.k c
def vPts (c : Dev nD) : sProp 𝕄 := (c : Thread nD τ).loc cc0_stg3_0 ↦{fullShare} I.v c
def woPts (c : Dev nD) : sProp 𝕄 := (c : Thread nD τ).loc cc0_stg4_0 ↦{fullShare} I.wo c
def outPts (c : Dev nD) (o : Fin 2 → Vec F S1x512x768 .f32) : sProp 𝕄 := (c : Thread nD τ).loc cc0_stg5_0 ↦{fullShare} outF o

/-- The own context's batch `b`, and the landing row `r`, whole. -/
def mRow (c : Dev nD) (b : Fin 2) (q : PosShare TreeShare) : sProp 𝕄 := mLoc c ↦[(m1R b).set]{q} mineF I c
def rRow (c : Dev nD) (r : Fin 6) (q : PosShare TreeShare) : sProp 𝕄 := rLoc c ↦[(r1R r).set]{q} recvF I c

theorem mRow_eq (c : Dev nD) (b : Fin 2) (q : PosShare TreeShare) : mRow I c b q = bigSep Finset.univ fun g => mPts c b g q (mineF I c) := by
  unfold mRow mPts
  rw [← m1R_cover b, pointsTo_biUnion _ _ fun g _ g' _ h => mR_disj (b, g) (b, g') fun e => h (congrArg Prod.snd e)]
theorem rRow_eq (c : Dev nD) (r : Fin 6) (q : PosShare TreeShare) : rRow I c r q = bigSep Finset.univ fun g => rPts c r g q (recvF I c) := by
  unfold rRow rPts
  rw [← r1R_cover r, pointsTo_biUnion _ _ fun g _ g' _ h => rR_disj (r, g) (r, g') fun e => h (congrArg Prod.snd e)]

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem mPts_share (c : Dev nD) (b : Fin 2) (g : Fin 4) (q : PosShare TreeShare) (f : (cc0_scratch0 : Ref sig .tc).ty.Contents (Elt F)) :
    (mPts c b g q f : sProp 𝕄) ⊣⊢ iprop(mPts c b g q.left f ∗ mPts c b g q.right f) := by
  unfold mPts; exact pointsTo_share (PosShare.mem_left_op_right q)
theorem rPts_share (c : Dev nD) (b : Fin 6) (g : Fin 4) (q : PosShare TreeShare) (f : (cc0_scratch1 : Ref sig .tc).ty.Contents (Elt F)) :
    (rPts c b g q f : sProp 𝕄) ⊣⊢ iprop(rPts c b g q.left f ∗ rPts c b g q.right f) := by
  unfold rPts; exact pointsTo_share (PosShare.mem_left_op_right q)

/-! ## A head, a group's two heads -/

theorem head_wp (c : Dev nD) (b : Fin 2) (h : Fin 8) (S : Finset S2x512x512.Idx) (hS : (headR b h).set ⊆ S)
    (f : (cc0_scratch0 : Ref sig .tc).ty.Contents (Elt F)) (Q : PUnit → sProp 𝕄) :
    iprop(kPts I c ∗ vPts I c ∗ (mLoc c ↦[S]{fullShare} f)
        ∗ (kPts I c ∗ vPts I c ∗ (mLoc c ↦[S]{fullShare} ((aMine.access (headR b h) : View sig .tc _ _ _).write (Elt F) f (ctxV I c b h) Finset.univ)) -∗ Q ⟨⟩))
      ⊢ WP c (headP (qbV I c b) b h) Q := by
  unfold kPts vPts
  simp only [headP, Prog.lift, Prog.bind_op, Prog.bind_ret]
  iintro ⟨HK, HV, HM, Hk⟩
  iapply (wp_load 𝒱₀ (c : Thread nD τ) none Set.univ (m := aK) (Finset.subset_univ _)) $$ HK; iintro HK
  iapply (wp_load 𝒱₀ (c : Thread nD τ) none Set.univ (m := aV) (Finset.subset_univ _)) $$ HV; iintro HV
  iapply (wp_load 𝒱₀ (c : Thread nD τ) none Set.univ (m := aMine) (S := S)
    (by rw [show aMine.view.setOn (headR b h).toLoadRect.set = (aMine.access (headR b h) : View sig .tc _ _ _).setOn Finset.univ from
      (View.set_slice _ _).symm, access_set]; exact hS)) $$ HM; iintro HM
  iapply (wp_store 𝒱₀ (c : Thread nD τ) none Set.univ (m := aMine) (r := headR b h) (Mk := Finset.univ) (S := S)
    (by rw [access_set]; exact hS)) $$ HM; iintro HM
  rw [wp_ret]; imodintro
  iapply Hk
  isplitl [HK]; · iexact HK
  isplitl [HV]; · iexact HV
  iexact HM

theorem heads_done (c : Dev nD) (b : Fin 2) (g : Fin 4) (f : (cc0_scratch0 : Ref sig .tc).ty.Contents (Elt F)) :
    (mLoc c ↦[(mR b g).set]{fullShare} ((aMine.access (headR b (hd1 g)) : View sig .tc _ _ _).write (Elt F)
      ((aMine.access (headR b (hd0 g)) : View sig .tc _ _ _).write (Elt F) f (ctxV I c b (hd0 g)) Finset.univ)
      (ctxV I c b (hd1 g)) Finset.univ) : sProp 𝕄) ⊢ mPts c b g fullShare (mineF I c) := by
  unfold mPts
  exact Entails.of_eq (pointsTo_congr (store_heads I c b g f))

theorem heads_wp (c : Dev nD) (b : Fin 2) (g : Fin 4) (f : (cc0_scratch0 : Ref sig .tc).ty.Contents (Elt F)) (p : Prog (E F) PUnit) (Q : PUnit → sProp 𝕄) :
    iprop(kPts I c ∗ vPts I c ∗ mPts c b g fullShare f ∗ (kPts I c ∗ vPts I c ∗ mPts c b g fullShare (mineF I c) -∗ WP c p Q))
      ⊢ WP c (headP (qbV I c b) b (hd0 g) >>= fun _ => headP (qbV I c b) b (hd1 g) >>= fun _ => p) Q := by
  unfold WP
  rw [wp_bind]
  iintro ⟨HK, HV, HM, Hk⟩
  iapply (head_wp I c b (hd0 g) (mR b g).set (head_sub0 b g) f)
  isplitl [HK]; · iexact HK
  isplitl [HV]; · iexact HV
  isplitl [HM]; · unfold mPts; iexact HM
  iintro ⟨HK, HV, HM⟩
  rw [wp_bind]
  iapply (head_wp I c b (hd1 g) (mR b g).set (head_sub1 b g))
  isplitl [HK]; · iexact HK
  isplitl [HV]; · iexact HV
  isplitl [HM]; · iexact HM
  iintro ⟨HK, HV, HM⟩
  iapply Hk
  isplitl [HK]; · iexact HK
  isplitl [HV]; · iexact HV
  iapply (heads_done I c b g f); iexact HM

/-! ## The phases -/

theorem phase1_wp (c : Dev nD) (g : Fin 4) (f : (cc0_scratch0 : Ref sig .tc).ty.Contents (Elt F)) (Q : PUnit → sProp 𝕄) :
    iprop(ctx I K ∗ core c (2 * g.val) 0 ∗ kPts I c ∗ vPts I c ∗ mPts c 0 g fullShare f
        ∗ (core c (2 * g.val + 2) 0 ∗ kPts I c ∗ vPts I c ∗ mPts c 0 g fullShare.right.right (mineF I c) -∗ Q ⟨⟩))
      ⊢ WP c (phase1 c (qbV I c 0) g) Q := by
  unfold phase1
  iintro ⟨#Hc, Hcore, HK, HV, HM, Hk⟩
  iapply (heads_wp I c 0 g f)
  isplitl [HK]; · iexact HK
  isplitl [HV]; · iexact HV
  isplitl [HM]; · iexact HM
  iintro ⟨HK, HV, HM⟩
  ihave HM := (mPts_share c 0 g fullShare (mineF I c)).1 $$ HM
  icases HM with ⟨HM0, HM⟩
  ihave HM := (mPts_share c 0 g fullShare.right (mineF I c)).1 $$ HM
  icases HM with ⟨HM1, HM⟩
  unfold WP
  rw [wp_bind]
  iapply (start_wp I K c 0 g 0)
  isplitr; · iexact Hc
  isplitl [Hcore]; · iexact Hcore
  isplitl [HM0]; · simp only [srcPts, shr]; iexact HM0
  iintro Hcore
  iapply (start_wp I K c 1 g 0)
  isplitr; · iexact Hc
  isplitl [Hcore]; · iexact Hcore
  isplitl [HM1]; · simp only [srcPts, shr]; iexact HM1
  iintro Hcore
  iapply Hk
  isplitl [Hcore]; · iexact Hcore
  isplitl [HK]; · iexact HK
  isplitl [HV]; · iexact HV
  iexact HM

theorem low0 : ∀ g : Fin 4, ∀ k ∈ toSend (8 + (3 * g.val + 1) + 1), lvlOf (some (some (true, ((0 : Fin 6), g)))) < lvlOf (some (some (true, k))) := by decide
theorem low3 : ∀ g : Fin 4, ∀ k ∈ toSend (20 + g.val), lvlOf (some (some (true, ((3 : Fin 6), g)))) < lvlOf (some (some (true, k))) := by decide

theorem phase2_wp (c : Dev nD) (g : Fin 4) (f : (cc0_scratch0 : Ref sig .tc).ty.Contents (Elt F)) (Q : PUnit → sProp 𝕄) :
    iprop(ctx I K ∗ core c (8 + 3 * g.val) g.val ∗ kPts I c ∗ vPts I c ∗ mPts c 1 g fullShare f
        ∗ (core c (8 + (3 * g.val + 2) + 1) (g.val + 1) ∗ kPts I c ∗ vPts I c ∗ mPts c 1 g fullShare.right.right (mineF I c)
            ∗ rPts c 0 g fullShare.right (recvF I c) -∗ Q ⟨⟩))
      ⊢ WP c (phase2 c (qbV I c 1) g) Q := by
  unfold phase2
  iintro ⟨#Hc, Hcore, HK, HV, HM, Hk⟩
  iapply (heads_wp I c 1 g f)
  isplitl [HK]; · iexact HK
  isplitl [HV]; · iexact HV
  isplitl [HM]; · iexact HM
  iintro ⟨HK, HV, HM⟩
  ihave HM := (mPts_share c 1 g fullShare (mineF I c)).1 $$ HM
  icases HM with ⟨HM0, HM⟩
  ihave HM := (mPts_share c 1 g fullShare.right (mineF I c)).1 $$ HM
  icases HM with ⟨HM1, HM⟩
  unfold WP
  rw [wp_bind]
  iapply (start_wp I K c 3 g g.val)
  isplitr; · iexact Hc
  isplitl [Hcore]; · iexact Hcore
  isplitl [HM0]; · simp only [srcPts, shr]; iexact HM0
  iintro Hcore
  rw [wp_bind]
  iapply (start_wp I K c 4 g g.val)
  isplitr; · iexact Hc
  isplitl [Hcore]; · iexact Hcore
  isplitl [HM1]; · simp only [srcPts, shr]; iexact HM1
  iintro Hcore
  rw [wp_bind]
  iapply (waitRecv_wp I K c 0 g (8 + (3 * g.val + 1) + 1) (low0 g))
  isplitr; · iexact Hc
  isplitl [Hcore]; · iexact Hcore
  iintro ⟨Hcore, HR⟩
  ihave HR := (rPts_share c 0 g fullShare (recvF I c)).1 $$ HR
  icases HR with ⟨HR0, HR⟩
  iapply (start_wp I K c 2 g (g.val + 1))
  isplitr; · iexact Hc
  isplitl [Hcore]; · iexact Hcore
  isplitl [HR0]; · simp only [srcPts, shr]; iexact HR0
  iintro Hcore
  iapply Hk
  isplitl [Hcore]; · iexact Hcore
  isplitl [HK]; · iexact HK
  isplitl [HV]; · iexact HV
  isplitl [HM] <;> iassumption

theorem phase3_wp (c : Dev nD) (g : Fin 4) (Q : PUnit → sProp 𝕄) :
    iprop(ctx I K ∗ core c (20 + g.val) (4 + g.val) ∗ (core c (20 + g.val + 1) (4 + g.val + 1) ∗ rPts c 3 g fullShare.right (recvF I c) -∗ Q ⟨⟩))
      ⊢ WP c (phase3 c g) Q := by
  unfold phase3 WP
  rw [wp_bind]
  iintro ⟨#Hc, Hcore, Hk⟩
  iapply (waitRecv_wp I K c 3 g (20 + g.val) (low3 g))
  isplitr; · iexact Hc
  isplitl [Hcore]; · iexact Hcore
  iintro ⟨Hcore, HR⟩
  ihave HR := (rPts_share c 3 g fullShare (recvF I c)).1 $$ HR
  icases HR with ⟨HR0, HR⟩
  iapply (start_wp I K c 5 g (4 + g.val + 1))
  isplitr; · iexact Hc
  isplitl [Hcore]; · iexact Hcore
  isplitl [HR0]; · simp only [srcPts, shr]; iexact HR0
  iintro Hcore
  iapply Hk
  isplitl [Hcore]; · iexact Hcore
  iexact HR

theorem lowEnd (r : Fin 6) (g : Fin 4) : ∀ k ∈ toSend 24, lvlOf (some (some (true, (r, g)))) < lvlOf (some (some (true, k))) := by
  intro k hk; rw [toSend_last] at hk; exact absurd hk (Finset.notMem_empty k)

/-- Waiting for a whole row, once nothing is owed. -/
theorem waitRow_wp (c : Dev nD) (r : Fin 6) (n : ℕ) (hr : ∀ g, rtime (r, g) = n + g.val) (Q : PUnit → sProp 𝕄) :
    iprop(ctx I K ∗ core c 24 n ∗ (core c 24 (n + 4) ∗ rRow I c r fullShare -∗ Q ⟨⟩)) ⊢ WP c (waitRow r) Q := by
  have w (g : Fin 4) (Q : PUnit → sProp 𝕄) := waitRecv_wp I K c r g 24 (lowEnd r g) Q
  simp only [hr] at w
  unfold waitRow WP
  rw [wp_bind, rRow_eq, bigSep_four]
  iintro ⟨#Hc, Hcore, Hk⟩
  iapply (w 0)
  isplitr; · iexact Hc
  isplitl [Hcore]; · iexact Hcore
  iintro ⟨Hcore, H0⟩
  rw [wp_bind]
  iapply (w 1)
  isplitr; · iexact Hc
  isplitl [Hcore]; · iexact Hcore
  iintro ⟨Hcore, H1⟩
  rw [wp_bind]
  iapply (w 2)
  isplitr; · iexact Hc
  isplitl [Hcore]; · iexact Hcore
  iintro ⟨Hcore, H2⟩
  iapply (w 3)
  isplitr; · iexact Hc
  isplitl [Hcore]; · iexact Hcore
  iintro ⟨Hcore, H3⟩
  iapply Hk
  isplitl [Hcore]; · iexact Hcore
  isplitl [H0]; · iexact H0
  isplitl [H1]; · iexact H1
  isplitl [H2] <;> iassumption

/-- Waiting for the sources of a group. -/
theorem sendWaits_wp (c : Dev nD) (g : Fin 4) (Q : PUnit → sProp 𝕄) :
    iprop(ctx I K ∗ fin I c (6 * g.val) ∗ (fin I c (6 * g.val + 6) -∗ Q ⟨⟩)) ⊢ WP c (sendWaits g) Q := by
  unfold sendWaits WP
  rw [wp_bind]
  iintro ⟨#Hc, Hf, Hk⟩
  iapply (waitSend_wp I K c 0 g)
  isplitr; · iexact Hc
  isplitl [Hf]; · iexact Hf
  iintro Hf
  rw [wp_bind]
  iapply (waitSend_wp I K c 1 g)
  isplitr; · iexact Hc
  isplitl [Hf]; · iexact Hf
  iintro Hf
  rw [wp_bind]
  iapply (waitSend_wp I K c 2 g)
  isplitr; · iexact Hc
  isplitl [Hf]; · iexact Hf
  iintro Hf
  rw [wp_bind]
  iapply (waitSend_wp I K c 3 g)
  isplitr; · iexact Hc
  isplitl [Hf]; · iexact Hf
  iintro Hf
  rw [wp_bind]
  iapply (waitSend_wp I K c 4 g)
  isplitr; · iexact Hc
  isplitl [Hf]; · iexact Hf
  iintro Hf
  iapply (waitSend_wp I K c 5 g)
  isplitr; · iexact Hc
  isplitl [Hf]; · iexact Hf
  iexact Hk

/-! ## The projection's steps -/

theorem xR_set (b : Fin 2) : aOut.view.setOn (xR b).toLoadRect.set ⊆ Finset.univ := Finset.subset_univ _
theorem m1_sub (b : Fin 2) : aMine.view.setOn (m1R b).toLoadRect.set ⊆ (m1R b).set := by
  rw [show aMine.view.setOn (m1R b).toLoadRect.set = (aMine.access (m1R b) : View sig .tc _ _ _).setOn Finset.univ from (View.set_slice _ _).symm]
  exact (View.set_slice_whole _ _).subset
theorem r1_sub (r : Fin 6) : aRecv.view.setOn (r1R r).toLoadRect.set ⊆ (r1R r).set := by
  rw [show aRecv.view.setOn (r1R r).toLoadRect.set = (aRecv.access (r1R r) : View sig .tc _ _ _).setOn Finset.univ from (View.set_slice _ _).symm]
  exact (View.set_slice_whole _ _).subset

theorem init_wp (c : Dev nD) (b : Fin 2) (wo : Vec F S512x768 .bf16) (q : PosShare TreeShare) (o : Fin 2 → Vec F S1x512x768 .f32) (Q : PUnit → sProp 𝕄) :
    iprop(mRow I c b q ∗ outPts c o ∗ (mRow I c b q ∗ outPts c (Function.update o b (k0_pay41 wo (mineV I c b))) -∗ Q ⟨⟩)) ⊢ WP c (initP wo b) Q := by
  unfold mRow outPts
  simp only [initP, Prog.lift, Prog.bind_op, Prog.bind_ret]
  iintro ⟨HM, HO, Hk⟩
  iapply (wp_load 𝒱₀ (c : Thread nD τ) none Set.univ (m := aMine) (m1_sub b)) $$ HM; iintro HM
  iapply (wp_load 𝒱₀ (c : Thread nD τ) none Set.univ (m := aOut) (Finset.subset_univ _)) $$ HO; iintro HO
  iapply (wp_store 𝒱₀ (c : Thread nD τ) none Set.univ (m := aOut) (r := xR b) (Mk := Finset.univ) (Finset.subset_univ _)) $$ HO; iintro HO
  rw [outF_write, wp_ret]; imodintro
  iapply Hk
  isplitl [HM] <;> iassumption

theorem accum_wp (c : Dev nD) (b : Fin 2) (r : Fin 6) (off : Fin 2 → Nat) (hoff : ∀ a, off a + S512x768.size a ≤ S2048x768.size a)
    (q : PosShare TreeShare) (o : Fin 2 → Vec F S1x512x768 .f32) (Q : PUnit → sProp 𝕄) :
    iprop(woPts I c ∗ rRow I c r q ∗ outPts c o
        ∗ (woPts I c ∗ rRow I c r q ∗ outPts c (Function.update o b (k0_pay44 (woV I c off hoff) (o b) (recvV I c r))) -∗ Q ⟨⟩))
      ⊢ WP c (accumP b r off hoff) Q := by
  unfold woPts rRow outPts
  simp only [accumP, loadWo, Prog.lift, Prog.bind_op, Prog.bind_ret]
  iintro ⟨HW, HR, HO, Hk⟩
  iapply (wp_load 𝒱₀ (c : Thread nD τ) none Set.univ (m := aWo) (Finset.subset_univ _)) $$ HW; iintro HW
  iapply (wp_load 𝒱₀ (c : Thread nD τ) none Set.univ (m := aOut) (Finset.subset_univ _)) $$ HO; iintro HO
  rw [outF_read]
  iapply (wp_load 𝒱₀ (c : Thread nD τ) none Set.univ (m := aRecv) (r1_sub r)) $$ HR; iintro HR
  iapply (wp_load 𝒱₀ (c : Thread nD τ) none Set.univ (m := aOut) (Finset.subset_univ _)) $$ HO; iintro HO
  iapply (wp_store 𝒱₀ (c : Thread nD τ) none Set.univ (m := aOut) (r := xR b) (Mk := Finset.univ) (Finset.subset_univ _)) $$ HO; iintro HO
  rw [outF_write, wp_ret]; imodintro
  iapply Hk
  isplitl [HW]; · iexact HW
  isplitl [HR] <;> iassumption

end Cert.KernelIdeal.Own
-- ==== Proof.SoundI.lean ====
/-
# The body, whole

From what a device starts with (its positions and the tokens it spends, its credits, its scratch buffers, its staged
arguments) the body runs to its end, the result staged, the scratch buffers and every semaphore back.
-/
module

public import proofs.«01_k».proof.Proof.BodyI

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (I : Inp F) (K : Dev nD × CI → ℕ)

/-! ## Cutting and joining the buffers -/

/-- A device's cells: the barrier, the send cells, the receive cells. -/
theorem bigSep_CI (Φ : CI → sProp 𝕄) : bigSep Finset.univ Φ
    = iprop(Φ none ∗ (bigSep Finset.univ fun k : Key => Φ (some (false, k))) ∗ bigSep Finset.univ fun k : Key => Φ (some (true, k))) := by
  rw [show (Finset.univ : Finset CI) = insert none ((Finset.univ : Finset (Bool × Key)).map Function.Embedding.some) from rfl,
    bigSep_ins (by simp), bigSep_map, bigSep_univ_prod, bigSep_univ_eq_bigSepL [false, true] (by decide) (by decide)]
  rfl

theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

theorem mine_cut (c : Dev nD) (q : PosShare TreeShare) (f : (cc0_scratch0 : Ref sig .tc).ty.Contents (Elt F)) :
    (mLoc c ↦{q} f : sProp 𝕄) = iprop((bigSep Finset.univ fun g => mPts c 0 g q f) ∗ bigSep Finset.univ fun g => mPts c 1 g q f) := by
  rw [← mR_cover, pointsTo_biUnion _ _ fun k _ k' _ h => mR_disj k k' h, bigSep_univ_prod, bigSep_univ_two]
  rfl
theorem recv_cut (c : Dev nD) (q : PosShare TreeShare) (f : (cc0_scratch1 : Ref sig .tc).ty.Contents (Elt F)) :
    (rLoc c ↦{q} f : sProp 𝕄) = bigSep Finset.univ fun k : Key => rPts c k.1 k.2 q f := by
  rw [← rR_cover, pointsTo_biUnion _ _ fun k _ k' _ h => rR_disj k k' h]
  rfl
theorem mine_rows (c : Dev nD) (q : PosShare TreeShare) : (mLoc c ↦{q} mineF I c : sProp 𝕄) = iprop(mRow I c 0 q ∗ mRow I c 1 q) := by
  rw [mine_cut, mRow_eq, mRow_eq]
theorem recv_rows (c : Dev nD) (q : PosShare TreeShare) : (rLoc c ↦{q} recvF I c : sProp 𝕄)
    = iprop(rRow I c 0 q ∗ rRow I c 1 q ∗ rRow I c 2 q ∗ rRow I c 3 q ∗ rRow I c 4 q ∗ rRow I c 5 q) := by
  rw [recv_cut, bigSep_univ_prod, bigSep_six]
  simp only [rRow_eq]

theorem mRow_share (c : Dev nD) (b : Fin 2) (q : PosShare TreeShare) :
    (mRow I c b q : sProp 𝕄) ⊣⊢ iprop(mRow I c b q.left ∗ mRow I c b q.right) := by
  unfold mRow; exact pointsTo_share (PosShare.mem_left_op_right q)
theorem rRow_share (c : Dev nD) (r : Fin 6) (q : PosShare TreeShare) :
    (rRow I c r q : sProp 𝕄) ⊣⊢ iprop(rRow I c r q.left ∗ rRow I c r q.right) := by
  unfold rRow; exact pointsTo_share (PosShare.mem_left_op_right q)

/-- The sources' shares, row by row. -/
theorem sources_rows (c : Dev nD) : (bigSep Finset.univ fun k : Key => sendPay I c k)
    = iprop(mRow I c 0 fullShare.left ∗ mRow I c 0 fullShare.right.left ∗ rRow I c 0 fullShare.left
      ∗ mRow I c 1 fullShare.left ∗ mRow I c 1 fullShare.right.left ∗ rRow I c 3 fullShare.left) := by
  rw [bigSep_univ_prod, bigSep_six]
  simp only [mRow_eq, rRow_eq]
  rfl

/-- Every share of the scratch buffers, joined. -/
theorem scratch_join (c : Dev nD) :
    iprop((bigSep Finset.univ fun k : Key => sendPay I c k) ∗ mRow I c 0 fullShare.right.right ∗ mRow I c 1 fullShare.right.right
        ∗ rRow I c 0 fullShare.right ∗ rRow I c 1 fullShare ∗ rRow I c 2 fullShare ∗ rRow I c 3 fullShare.right ∗ rRow I c 4 fullShare ∗ rRow I c 5 fullShare)
      ⊢ iprop((mLoc c ↦{fullShare} mineF I c) ∗ (rLoc c ↦{fullShare} recvF I c) : sProp 𝕄) := by
  rw [sources_rows, mine_rows, recv_rows]
  iintro ⟨⟨A0, A1, A2, A3, A4, A5⟩, B0, B1, C0, C1, C2, C3, C4, C5⟩
  isplitl [A0 A1 A3 A4 B0 B1]
  · isplitl [A0 A1 B0]
    · iapply (mRow_share I c 0 fullShare).2
      isplitl [A0]; · iexact A0
      iapply (mRow_share I c 0 fullShare.right).2
      isplitl [A1] <;> iassumption
    · iapply (mRow_share I c 1 fullShare).2
      isplitl [A3]; · iexact A3
      iapply (mRow_share I c 1 fullShare.right).2
      isplitl [A4] <;> iassumption
  isplitl [A2 C0]
  · iapply (rRow_share I c 0 fullShare).2
    isplitl [A2] <;> iassumption
  isplitl [C1]; · iexact C1
  isplitl [C2]; · iexact C2
  isplitl [A5 C3]
  · iapply (rRow_share I c 3 fullShare).2
    isplitl [A5] <;> iassumption
  isplitl [C4] <;> iassumption

theorem rPts_any (c : Dev nD) (r : Fin 6) (g : Fin 4) (f : (cc0_scratch1 : Ref sig .tc).ty.Contents (Elt F)) :
    rPts c r g fullShare f ⊢ (iprop(∃ f, rPts c r g fullShare f) : sProp 𝕄) := by
  iintro H; iexists f; iexact H

/-- The landing buffer cut for the two neighbours. -/
theorem landing_cut (c : Dev nD) (f : (cc0_scratch1 : Ref sig .tc).ty.Contents (Elt F)) :
    (rLoc c ↦{fullShare} f : sProp 𝕄) ⊢ iprop(barPay (lft c) true ∗ barPay (rgt c) false) := by
  have h (c' : Dev nD) (d : Bool) (hc : (if d then rgt c' else lft c') = c) :
      (bigSep (dirK d) fun k : Key => rPts c k.1 k.2 fullShare f) ⊢ (barPay c' d : sProp 𝕄) := by
    unfold barPay
    refine bigSep_mono fun k hk => ?_
    rw [tgt_toR k d hk, hc]
    exact rPts_any c k.1 k.2 f
  rw [recv_cut, show (Finset.univ : Finset Key) = dirK true ∪ dirK false by decide,
    BI.bigSep_union (show Disjoint (dirK true) (dirK false) by decide)]
  exact BI.sep_mono (h (lft c) true (rgt_lft c)) (h (rgt c) false (lft_rgt c))

/-! ## The start and the end of the bookkeeping -/

/-- The tokens device `c` spends. -/
def payToks (c : Dev nD) : sProp 𝕄 :=
  iprop(dutyTok ER (barCell (lft c)) 0 true ∗ dutyTok ER (barCell (rgt c)) 0 false
    ∗ bigSep Finset.univ fun k : Key => iprop(dutyTok ER (sendCell c k) 0 false ∗ dutyTok ER (recvCell (tgt k.1 c) k) 0 false))
/-- The positions device `c` holds, and those tokens. -/
def linear (c : Dev nD) : sProp 𝕄 :=
  iprop((bigSep Finset.univ fun i : CI => atPos ER (kcell (c, i)) 0 ∅ 0) ∗ payToks c)
def recvCreds (c : Dev nD) : sProp 𝕄 := bigSep Finset.univ fun k : Key => cred (tallyAt (recvCell c k) () N)

theorem core_intro (c : Dev nD) :
    iprop((bigSep Finset.univ fun k : Key => iprop(dutyTok ER (sendCell c k) 0 false ∗ dutyTok ER (recvCell (tgt k.1 c) k) 0 false))
        ∗ (bigSep Finset.univ fun k : Key => iprop(∃ f, rPts (F := F) (tgt k.1 c) k.1 k.2 fullShare f))
        ∗ recvCreds c ∗ (bigSep Finset.univ fun k : Key => atPos ER (recvCell c k) 0 ∅ 0)
        ∗ ∃ W, owes (c : Thread nD τ) (Os c 0) W)
      ⊢ (core c 0 0 : sProp 𝕄) := by
  unfold core startRes recvCreds
  rw [toSend_zero, toRecv_zero, Finset.compl_univ, bigSep_empty, bigSep_empty, bigSep_sep']
  simp only [bigSep_sep']
  iintro ⟨⟨Hs, Hr⟩, Hp, Hc, Ha, HO⟩
  isplitl [Hs Hr Hp]
  · isplitl [Hs]; · iexact Hs
    isplitl [Hr] <;> iassumption
  isplitr; · iempintro
  isplitl [Hc Ha]
  · isplitl [Hc] <;> iassumption
  isplitr; · iempintro
  iexact HO

theorem core_exit (c : Dev nD) :
    (core c 24 24 : sProp 𝕄) ⊢ iprop((bigSep Finset.univ fun k : Key => cred (tallyAt (sendCell c k) () N))
        ∗ (bigSep Finset.univ fun k : Key => semVal (recvCell c k) 0) ∗ ∃ W, owes (c : Thread nD τ) 0 W) := by
  unfold core
  rw [toSend_last, toRecv_last, Finset.compl_empty, Os_last, bigSep_empty, bigSep_empty]
  iintro ⟨-, Hs, -, Hz, HO⟩
  isplitl [Hs]; · iexact Hs
  isplitl [Hz] <;> iassumption

theorem fin_intro (c : Dev nD) :
    iprop((bigSep Finset.univ fun k : Key => cred (tallyAt (sendCell c k) () N)) ∗ (bigSep Finset.univ fun k : Key => atPos ER (sendCell c k) 0 ∅ 0)
        ∗ ∃ W, owes (c : Thread nD τ) 0 W) ⊢ (fin I c 0 : sProp 𝕄) := by
  unfold fin
  rw [toFree_zero, Finset.compl_univ, bigSep_empty, bigSep_sep']
  iintro ⟨Hs, Ha, HO⟩
  isplitl [Hs Ha]
  · isplitl [Hs] <;> iassumption
  isplitr; · iempintro
  iexact HO
theorem fin_exit (c : Dev nD) :
    (fin I c 24 : sProp 𝕄) ⊢ iprop((bigSep Finset.univ fun k : Key => semVal (sendCell c k) 0) ∗ (bigSep Finset.univ fun k : Key => sendPay I c k)
        ∗ ∃ W, owes (c : Thread nD τ) 0 W) := by
  unfold fin
  rw [toFree_last, Finset.compl_empty, bigSep_empty, bigSep_sep']
  iintro ⟨-, ⟨Hz, Hp⟩, HO⟩
  isplitl [Hz]; · iexact Hz
  isplitl [Hp] <;> iassumption

/-! ## The body -/

/-- What the body starts from, besides the persistent records. -/
def bodyIn (c : Dev nD) : sProp 𝕄 :=
  iprop(linear c ∗ cred (tallyAt (barCell c) () 2) ∗ recvCreds c ∗ (∃ f, mLoc c ↦{fullShare} f) ∗ (∃ f, rLoc c ↦{fullShare} f)
    ∗ (∃ W, owes (c : Thread nD τ) (O₀ c) W)
    ∗ xPts I c ∗ wqPts I c ∗ kPts I c ∗ vPts I c ∗ woPts I c ∗ ∃ o, outPts c o)

/-- What is back at the end besides the staging buffers: the scratch buffers and every semaphore at zero. -/
def back (c : Dev nD) : sProp 𝕄 :=
  iprop((∃ f, mLoc c ↦{fullShare} f) ∗ (∃ f, rLoc c ↦{fullShare} f) ∗ bigSep Finset.univ fun i : CI => semVal (kcell (c, i)) 0)

def bodyOut (c : Dev nD) : sProp 𝕄 :=
  iprop(back c ∗ (∃ W, owes (c : Thread nD τ) 0 W)
    ∗ xPts I c ∗ wqPts I c ∗ kPts I c ∗ vPts I c ∗ woPts I c ∗ (c : Thread nD τ).loc cc0_stg5_0 ↦{fullShare} outAt I c)

theorem bar_low (c : Dev nD) : (levAts L lv : sProp 𝕄) ⊢ MayWait (c : Thread nD τ) (.reg barS) () (Os c 0) :=
  mayWait_cell c none 0 (by rw [toSend_zero]; decide)

/-- The handshake: both neighbours signalled, both waited for; what it gives is ready for the transfers. -/
theorem handshake_wp (c : Dev nD) (f : (cc0_scratch1 : Ref sig .tc).ty.Contents (Elt F)) (W : Waits sig Unit) (p : Prog (E F) PUnit) (Q : PUnit → sProp 𝕄) :
    iprop(ctx I K ∗ payToks c ∗ atPos ER (barCell c) 0 ∅ 0 ∗ (bigSep Finset.univ fun k : Key => atPos ER (recvCell c k) 0 ∅ 0)
        ∗ cred (tallyAt (barCell c) () 2) ∗ recvCreds c ∗ (rLoc c ↦{fullShare} f) ∗ owes (c : Thread nD τ) (O₀ c) W
        ∗ (core c 0 0 ∗ semVal (barCell c) 0 -∗ WP c p Q))
      ⊢ WP c (semSignalWord (lft c) barS 1#32 >>= fun _ => semSignalWord (rgt c) barS 1#32 >>= fun _ => semWaitWord barS 2#32 >>= fun _ => p) Q := by
  simp only [semSignalWord, semWaitWord, Prog.lift, Prog.bind_op, Prog.bind_ret]
  unfold payToks
  iintro ⟨#Hc, ⟨HtL, HtR, Htk⟩, HaB, HaR, HcB, HcR, Hland, HO, Hk⟩
  ihave Hland := (landing_cut c f) $$ Hland
  icases Hland with ⟨HL, HR⟩
  iapply (Rounds.wp_signal 𝒱₀ ER (Rd I) (c : Thread nD τ) none (dst := (lft c : Thread nD τ)) (κ := K (lft c, none))
      (d := true) (by rw [duties_bar]; exact Finset.mem_univ _) ((amount_bar I (lft c) true).trans (by decide)) () (O₁ c) rfl)
    $$ [HO HtL HL]
  · isplitr; · iapply (ctx_inv I K (lft c, none)); iexact Hc
    isplitl [HO]; · iexact HO
    isplitl [HtL]; · iexact HtL
    isplitl [HL]; · rw [payload_bar]; iexact HL
    iapply (ctx_reached I K (lft c, none)); iexact Hc
  iintro HO
  iapply (Rounds.wp_signal 𝒱₀ ER (Rd I) (c : Thread nD τ) none (dst := (rgt c : Thread nD τ)) (κ := K (rgt c, none))
      (d := false) (by rw [duties_bar]; exact Finset.mem_univ _) ((amount_bar I (rgt c) false).trans (by decide)) () (Os c 0) rfl)
    $$ [HO HtR HR]
  · isplitr; · iapply (ctx_inv I K (rgt c, none)); iexact Hc
    isplitl [HO]; · iexact HO
    isplitl [HtR]; · iexact HtR
    isplitl [HR]; · rw [payload_bar]; iexact HR
    iapply (ctx_reached I K (rgt c, none)); iexact Hc
  iintro HO
  iapply (Rounds.wp_wait_rest_token 𝒱₀ ER (Rd I) (c : Thread nD τ) none (κ := K (c, none))
      (wpE_semWait_eq 𝒱₀ (c : Thread nD τ) none Set.univ) (Set.mem_univ _) () (O := Os c 0) (W := W) (R := 0) (m := 0) (T := ∅)
      (by rw [expect_bar]; decide)) $$ [HcB HO HaB]
  · isplitr; · iapply (ctx_inv I K (c, none)); iexact Hc
    isplitl [HcB]; · iexact HcB
    isplitl [HO]; · iexact HO
    isplitr; · iapply (bar_low c); iapply (ctx_lev I K); iexact Hc
    iexact HaB
  iintro ⟨HO, HaB, -, Hpay⟩
  ihave Hpay := (Entails.of_eq (rest_bar I c)) $$ Hpay
  imod (Rounds.cell_close ER (Rd I) (Set.mem_univ (K (c, none))) (fun h => h) (R := 0 + 1) (duties_later I (barCell c))) $$ [HaB] with Hv
  · isplitr; · iapply (ctx_inv I K (c, none)); iexact Hc
    iexact HaB
  iapply Hk
  isplitr [Hv]
  · iapply (core_intro c)
    isplitl [Htk]; · iexact Htk
    isplitl [Hpay]; · iexact Hpay
    isplitl [HcR]; · iexact HcR
    isplitl [HaR]; · iexact HaR
    iexists _; iexact HO
  iexact Hv

/-- The result after the projection's eight steps, whatever the buffer held. -/
def stepped (c : Dev nD) (o : Fin 2 → Vec F S1x512x768 .f32) : Fin 2 → Vec F S1x512x768 .f32 :=
  let up (b : Fin 2) (r : Fin 6) (off : Fin 2 → Nat) (h : ∀ a, off a + S512x768.size a ≤ S2048x768.size a) (o : Fin 2 → Vec F S1x512x768 .f32) :=
    Function.update o b (k0_pay44 (woV I c off h) (o b) (recvV I c r))
  let o := Function.update o 0 (k0_pay41 (woV I c (k0_off2 c) (k0_off2_inb c)) (mineV I c 0))
  let o := Function.update o 1 (k0_pay41 (woV I c (k0_off2 c) (k0_off2_inb c)) (mineV I c 1))
  let o := up 0 0 (k0_off3 c) (k0_off3_inb c) o
  let o := up 1 3 (k0_off4 c 1#32) (k0_off4_inb c 0) o
  let o := up 0 1 (k0_off4 c 1#32) (k0_off4_inb c 0) o
  let o := up 1 4 (k0_off3 c) (k0_off3_inb c) o
  let o := up 0 2 (k0_off4 c 2#32) (k0_off4_inb c 1) o
  up 1 5 (k0_off4 c 2#32) (k0_off4_inb c 1) o

theorem update_pair {α : Type} (o : Fin 2 → α) (x y : α) : Function.update (Function.update o 0 x) 1 y = ![x, y] := by
  funext b
  match b with
  | 0 => rfl
  | 1 => rfl
theorem update_left {α : Type} (x y z : α) : Function.update ![x, y] 0 z = ![z, y] := by
  funext b
  match b with
  | 0 => rfl
  | 1 => rfl
theorem update_right {α : Type} (x y z : α) : Function.update ![x, y] 1 z = ![x, z] := by
  funext b
  match b with
  | 0 => rfl
  | 1 => rfl

theorem stepped_eq (c : Dev nD) (o : Fin 2 → Vec F S1x512x768 .f32) : stepped I c o = ![out0 I c, out1 I c] := by
  unfold stepped out0 out1
  dsimp only
  simp only [update_pair, update_left, update_right, Matrix.cons_val_zero, Matrix.cons_val_one]

theorem out_final (c : Dev nD) (o : Fin 2 → Vec F S1x512x768 .f32) :
    outPts c (stepped I c o) ⊢ ((c : Thread nD τ).loc cc0_stg5_0 ↦{fullShare} outAt I c : sProp 𝕄) := by
  rw [stepped_eq]; unfold outPts outAt; exact BI.Entails.refl _

theorem loadWo_wp (c : Dev nD) (off : Fin 2 → Nat) (hoff : ∀ a, off a + S512x768.size a ≤ S2048x768.size a) (Q : Vec F S512x768 .bf16 → sProp 𝕄) :
    iprop(woPts I c ∗ (woPts I c -∗ Q (woV I c off hoff))) ⊢ WP c (loadWo off hoff) Q := by
  unfold woPts
  simp only [loadWo, Prog.lift]
  iintro ⟨HW, Hk⟩
  iapply (wp_load 𝒱₀ (c : Thread nD τ) none Set.univ (m := aWo) (Finset.subset_univ _)) $$ HW; iintro HW
  rw [wp_ret]; imodintro
  iapply Hk; iexact HW

set_option maxHeartbeats 1600000 in
theorem sound_prog (c : Dev nD) (Kt : PUnit → sProp 𝕄) :
    iprop(ctx I K ∗ bodyIn I c ∗ (bodyOut I c -∗ Kt ⟨⟩)) ⊢ WP c prog Kt := by
  unfold prog bodyIn linear
  rw [bigSep_CI]
  simp only [mine_cut, bigSep_four]
  unfold WP
  iintro ⟨#Hc, ⟨⟨⟨HaB, HaS, HaR⟩, Htk⟩, HcB, HcR, ⟨%fm, ⟨M00, M01, M02, M03⟩, ⟨M10, M11, M12, M13⟩⟩, ⟨%fr, Hland⟩, ⟨%W, HO⟩,
    HX, HWq, HK, HV, HWo, ⟨%o, Hout⟩⟩, Hk⟩
  rw [wp_bind]
  simp only [Prog.lift, wp_deviceId]
  rw [wp_ret]; imodintro
  iapply (handshake_wp I K c fr W)
  isplitr; · iexact Hc
  isplitl [Htk]; · iexact Htk
  isplitl [HaB]; · iexact HaB
  isplitl [HaR]; · iexact HaR
  isplitl [HcB]; · iexact HcB
  isplitl [HcR]; · iexact HcR
  isplitl [Hland]; · iexact Hland
  isplitl [HO]; · iexact HO
  iintro ⟨Hcore, HvB⟩
  unfold wqPts xPts
  simp only [loadX, Prog.lift, Prog.bind_op, Prog.bind_ret]
  iapply (wp_load 𝒱₀ (c : Thread nD τ) none Set.univ (m := aWq) (Finset.subset_univ _)) $$ HWq; iintro HWq
  iapply (wp_load 𝒱₀ (c : Thread nD τ) none Set.univ (m := aX) (Finset.subset_univ _)) $$ HX; iintro HX
  rw [wp_bind]
  iapply (phase1_wp I K c 0)
  isplitr; · iexact Hc
  isplitl [Hcore]; · iexact Hcore
  isplitl [HK]; · iexact HK
  isplitl [HV]; · iexact HV
  isplitl [M00]; · iexact M00
  iintro ⟨Hcore, HK, HV, M00⟩
  rw [wp_bind]
  iapply (phase1_wp I K c 1)
  isplitr; · iexact Hc
  isplitl [Hcore]; · iexact Hcore
  isplitl [HK]; · iexact HK
  isplitl [HV]; · iexact HV
  isplitl [M01]; · iexact M01
  iintro ⟨Hcore, HK, HV, M01⟩
  rw [wp_bind]
  iapply (phase1_wp I K c 2)
  isplitr; · iexact Hc
  isplitl [Hcore]; · iexact Hcore
  isplitl [HK]; · iexact HK
  isplitl [HV]; · iexact HV
  isplitl [M02]; · iexact M02
  iintro ⟨Hcore, HK, HV, M02⟩
  rw [wp_bind]
  iapply (phase1_wp I K c 3)
  isplitr; · iexact Hc
  isplitl [Hcore]; · iexact Hcore
  isplitl [HK]; · iexact HK
  isplitl [HV]; · iexact HV
  isplitl [M03]; · iexact M03
  iintro ⟨Hcore, HK, HV, M03⟩
  iapply (wp_load 𝒱₀ (c : Thread nD τ) none Set.univ (m := aX) (Finset.subset_univ _)) $$ HX; iintro HX
  rw [wp_bind]
  iapply (phase2_wp I K c 0)
  isplitr; · iexact Hc
  isplitl [Hcore]; · iexact Hcore
  isplitl [HK]; · iexact HK
  isplitl [HV]; · iexact HV
  isplitl [M10]; · iexact M10
  iintro ⟨Hcore, HK, HV, M10, R00⟩
  rw [wp_bind]
  iapply (phase2_wp I K c 1)
  isplitr; · iexact Hc
  isplitl [Hcore]; · iexact Hcore
  isplitl [HK]; · iexact HK
  isplitl [HV]; · iexact HV
  isplitl [M11]; · iexact M11
  iintro ⟨Hcore, HK, HV, M11, R01⟩
  rw [wp_bind]
  iapply (phase2_wp I K c 2)
  isplitr; · iexact Hc
  isplitl [Hcore]; · iexact Hcore
  isplitl [HK]; · iexact HK
  isplitl [HV]; · iexact HV
  isplitl [M12]; · iexact M12
  iintro ⟨Hcore, HK, HV, M12, R02⟩
  rw [wp_bind]
  iapply (phase2_wp I K c 3)
  isplitr; · iexact Hc
  isplitl [Hcore]; · iexact Hcore
  isplitl [HK]; · iexact HK
  isplitl [HV]; · iexact HV
  isplitl [M13]; · iexact M13
  iintro ⟨Hcore, HK, HV, M13, R03⟩
  ihave M0 := (Entails.of_eq (mRow_eq I c 0 _).symm) $$ [M00 M01 M02 M03]
  · rw [bigSep_four]
    isplitl [M00]; · iexact M00
    isplitl [M01]; · iexact M01
    isplitl [M02] <;> iassumption
  ihave M1 := (Entails.of_eq (mRow_eq I c 1 _).symm) $$ [M10 M11 M12 M13]
  · rw [bigSep_four]
    isplitl [M10]; · iexact M10
    isplitl [M11]; · iexact M11
    isplitl [M12] <;> iassumption
  rw [wp_bind]
  iapply (loadWo_wp I c (k0_off2 c) (k0_off2_inb c))
  isplitl [HWo]; · iexact HWo
  iintro HWo
  rw [wp_bind]
  iapply (init_wp I c 0)
  isplitl [M0]; · iexact M0
  isplitl [Hout]; · iexact Hout
  iintro ⟨M0, Hout⟩
  rw [wp_bind]
  iapply (init_wp I c 1)
  isplitl [M1]; · iexact M1
  isplitl [Hout]; · iexact Hout
  iintro ⟨M1, Hout⟩
  rw [wp_bind]
  iapply (phase3_wp I K c 0)
  isplitr; · iexact Hc
  isplitl [Hcore]; · iexact Hcore
  iintro ⟨Hcore, R30⟩
  rw [wp_bind]
  iapply (phase3_wp I K c 1)
  isplitr; · iexact Hc
  isplitl [Hcore]; · iexact Hcore
  iintro ⟨Hcore, R31⟩
  rw [wp_bind]
  iapply (phase3_wp I K c 2)
  isplitr; · iexact Hc
  isplitl [Hcore]; · iexact Hcore
  iintro ⟨Hcore, R32⟩
  rw [wp_bind]
  iapply (phase3_wp I K c 3)
  isplitr; · iexact Hc
  isplitl [Hcore]; · iexact Hcore
  iintro ⟨Hcore, R33⟩
  ihave C0 := (Entails.of_eq (rRow_eq I c 0 _).symm) $$ [R00 R01 R02 R03]
  · rw [bigSep_four]
    isplitl [R00]; · iexact R00
    isplitl [R01]; · iexact R01
    isplitl [R02] <;> iassumption
  ihave C3 := (Entails.of_eq (rRow_eq I c 3 _).symm) $$ [R30 R31 R32 R33]
  · rw [bigSep_four]
    isplitl [R30]; · iexact R30
    isplitl [R31]; · iexact R31
    isplitl [R32] <;> iassumption
  rw [wp_bind]
  iapply (accum_wp I c 0 0 (k0_off3 c) (k0_off3_inb c) fullShare.right)
  isplitl [HWo]; · iexact HWo
  isplitl [C0]; · iexact C0
  isplitl [Hout]; · iexact Hout
  iintro ⟨HWo, C0, Hout⟩
  rw [wp_bind]
  iapply (accum_wp I c 1 3 (k0_off4 c 1#32) (k0_off4_inb c 0) fullShare.right)
  isplitl [HWo]; · iexact HWo
  isplitl [C3]; · iexact C3
  isplitl [Hout]; · iexact Hout
  iintro ⟨HWo, C3, Hout⟩
  rw [wp_bind]
  iapply (waitRow_wp I K c 1 8 (by decide))
  isplitr; · iexact Hc
  isplitl [Hcore]; · iexact Hcore
  iintro ⟨Hcore, C1⟩
  rw [wp_bind]
  iapply (accum_wp I c 0 1 (k0_off4 c 1#32) (k0_off4_inb c 0) fullShare)
  isplitl [HWo]; · iexact HWo
  isplitl [C1]; · iexact C1
  isplitl [Hout]; · iexact Hout
  iintro ⟨HWo, C1, Hout⟩
  rw [wp_bind]
  iapply (waitRow_wp I K c 4 12 (by decide))
  isplitr; · iexact Hc
  isplitl [Hcore]; · iexact Hcore
  iintro ⟨Hcore, C4⟩
  rw [wp_bind]
  iapply (accum_wp I c 1 4 (k0_off3 c) (k0_off3_inb c) fullShare)
  isplitl [HWo]; · iexact HWo
  isplitl [C4]; · iexact C4
  isplitl [Hout]; · iexact Hout
  iintro ⟨HWo, C4, Hout⟩
  rw [wp_bind]
  iapply (waitRow_wp I K c 2 16 (by decide))
  isplitr; · iexact Hc
  isplitl [Hcore]; · iexact Hcore
  iintro ⟨Hcore, C2⟩
  rw [wp_bind]
  iapply (accum_wp I c 0 2 (k0_off4 c 2#32) (k0_off4_inb c 1) fullShare)
  isplitl [HWo]; · iexact HWo
  isplitl [C2]; · iexact C2
  isplitl [Hout]; · iexact Hout
  iintro ⟨HWo, C2, Hout⟩
  rw [wp_bind]
  iapply (waitRow_wp I K c 5 20 (by decide))
  isplitr; · iexact Hc
  isplitl [Hcore]; · iexact Hcore
  iintro ⟨Hcore, C5⟩
  rw [wp_bind]
  iapply (accum_wp I c 1 5 (k0_off4 c 2#32) (k0_off4_inb c 1) fullShare)
  isplitl [HWo]; · iexact HWo
  isplitl [C5]; · iexact C5
  isplitl [Hout]; · iexact Hout
  iintro ⟨HWo, C5, Hout⟩
  ihave Hcore := (core_exit c) $$ Hcore
  icases Hcore with ⟨HcS, HvR, HO⟩
  ihave Hf := (fin_intro I c) $$ [HcS HaS HO]
  · isplitl [HcS]; · iexact HcS
    isplitl [HaS]; · iexact HaS
    iexact HO
  rw [wp_bind]
  iapply (sendWaits_wp I K c 0)
  isplitr; · iexact Hc
  isplitl [Hf]; · iexact Hf
  iintro Hf
  rw [wp_bind]
  iapply (sendWaits_wp I K c 1)
  isplitr; · iexact Hc
  isplitl [Hf]; · iexact Hf
  iintro Hf
  rw [wp_bind]
  iapply (sendWaits_wp I K c 2)
  isplitr; · iexact Hc
  isplitl [Hf]; · iexact Hf
  iintro Hf
  iapply (sendWaits_wp I K c 3)
  isplitr; · iexact Hc
  isplitl [Hf]; · iexact Hf
  iintro Hf
  ihave Hf := (fin_exit I c) $$ Hf
  icases Hf with ⟨HvS, Hsrc, HO⟩
  ihave Hscr := (scratch_join I c) $$ [Hsrc M0 M1 C0 C1 C2 C3 C4 C5]
  · isplitl [Hsrc]; · iexact Hsrc
    isplitl [M0]; · iexact M0
    isplitl [M1]; · iexact M1
    isplitl [C0]; · iexact C0
    isplitl [C1]; · iexact C1
    isplitl [C2]; · iexact C2
    isplitl [C3]; · iexact C3
    isplitl [C4]; · iexact C4
    iexact C5
  icases Hscr with ⟨HM, HR⟩
  iapply Hk
  unfold bodyOut back
  rw [bigSep_CI]
  isplitl [HM HR HvB HvS HvR]
  · isplitl [HM]; · iexists _; iexact HM
    isplitl [HR]; · iexists _; iexact HR
    isplitl [HvB]; · iexact HvB
    isplitl [HvS]; · iexact HvS
    iexact HvR
  isplitl [HO]; · iexact HO
  isplitl [HX]; · unfold xPts; iexact HX
  isplitl [HWq]; · unfold wqPts; iexact HWq
  isplitl [HK]; · iexact HK
  isplitl [HV]; · iexact HV
  isplitl [HWo]; · iexact HWo
  iapply (out_final I c o); iexact Hout

end Cert.KernelIdeal.Own
-- ==== Proof.LaunchI.lean ====
/-
# The launch

The cells' rounds and tokens as the launch deals them to the devices, and the run of the whole program: every device's
result array ends at `outAt`, its arguments as they were, every semaphore at zero.
-/
module

public import proofs.«01_k».proof.Proof.SoundI
public import proofs.«01_k».proof.Proof.Gen.KernelIdeal.Points
public import proofs.«01_k».proof.Proof.Gen.KernelIdeal.Frame
public import Idealize.ShloMosaic.Lib.Pipeline.CollectiveSegs
public import Idealize.ShloMosaic.Lib.Pipeline.Value
public import Idealize.ShloMosaic.Lib.Pipeline.ValueKit

@[expose] public section

set_option maxRecDepth 16384

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the devices are given -/

section Deal

variable (I : Inp F)

/-- The kernel's own semaphores: a send and a receive semaphore for each transfer. -/
abbrev osem (p : Bool × Key) : SemLoc sig := csem (some p)

theorem stage_dec : ∀ (w : Fin 6) (s), dec (.dma ((spec0 w).sem s)) = none := by decide
theorem ownSemFacts : Pipeline.OwnSemFacts cfg0.spec osem where
  isScoped := fun p => by revert p; decide
  inj := fun a b h => Option.some.inj (csem_inj h)
  disj := fun p w s h => by
    have e := congrArg dec h
    rw [dec_csem] at e
    exact absurd (e.trans (stage_dec w s)) (by simp)

def ownCells : Finset (GSem nD τ sig) := Finset.univ.map ⟨kcell, kcell_injective⟩

/-- The duties of a device's own cells: two at the barrier, one at each other cell. -/
abbrev TI : Type := Bool ⊕ (Bool × Key)
def tokOf (p : Dev nD × TI) : GSem nD τ sig × ℕ × Bool := match p.2 with
  | .inl d => (barCell p.1, 0, d)
  | .inr q => (kcell (p.1, some q), 0, false)
theorem tokOf_injective : Function.Injective (tokOf : Dev nD × TI → GSem nD τ sig × ℕ × Bool) := by
  rintro ⟨c, d | q⟩ ⟨c', d' | q'⟩ h
  · have h1 : (c, (none : CI)) = (c', none) := kcell_injective (congrArg Prod.fst h)
    have h2 : d = d' := congrArg (fun x : GSem nD τ sig × ℕ × Bool => x.2.2) h
    rw [(Prod.mk.inj h1).1, h2]
  · have h1 : (c, (none : CI)) = (c', some q') := kcell_injective (congrArg Prod.fst h)
    exact absurd (Prod.mk.inj h1).2 (by simp)
  · have h1 : (c, some q) = (c', (none : CI)) := kcell_injective (congrArg Prod.fst h)
    exact absurd (Prod.mk.inj h1).2 (by simp)
  · have h1 : (c, some q) = (c', some q') := kcell_injective (congrArg Prod.fst h)
    rw [(Prod.mk.inj h1).1, Option.some.inj (Prod.mk.inj h1).2]
def ownToks : Finset (GSem nD τ sig × ℕ × Bool) := Finset.univ.map ⟨tokOf, tokOf_injective⟩

def u₀ : UU :=
  (initOf (Pipeline.cells cfgs cellOf_inj) (Pipeline.launchToks cfgs cellOf_inj), initOf ownCells ownToks)

/-- The duty tokens of device `c`'s own cells. -/
def toks (c : Dev nD) : sProp 𝕄 :=
  iprop((dutyTok ER (barCell c) 0 false ∗ dutyTok ER (barCell c) 0 true)
    ∗ (bigSep Finset.univ fun k : Key => dutyTok ER (sendCell c k) 0 false) ∗ bigSep Finset.univ fun k : Key => dutyTok ER (recvCell c k) 0 false)

theorem toks_eq (c : Dev nD) : (bigSep Finset.univ fun t : TI => (dutyTok ER (tokOf (c, t)).1 (tokOf (c, t)).2.1 (tokOf (c, t)).2.2 : sProp 𝕄)) = toks c := by
  unfold toks
  rw [bigSep_univ_sum, bigSep_univ_prod, bigSep_univ_eq_bigSepL [false, true] (by decide) (by decide), bigSep_univ_eq_bigSepL [false, true] (by decide) (by decide)]
  rfl

/-- What the launch deals device `c`. -/
def G (c : Dev nD) : sProp 𝕄 :=
  iprop((bigSep Finset.univ fun i : CI => roundState ER (Rd I) (kcell (c, i)) 0)
    ∗ (bigSep Finset.univ fun i : CI => iprop(atPos ER (kcell (c, i)) 0 ∅ 0 ∗ reached ER (kcell (c, i)) 0)) ∗ toks c)

/-- What is made of it before the region. -/
def G' (c : Dev nD) : sProp 𝕄 := iprop(∃ K, records I K ∗ linear c)

theorem fund_own : BI.own (ER (initOf ownCells ownToks)) ⊢ (|==> bigSep Finset.univ (G I) : sProp 𝕄) := by
  have hX (Φ : GSem nD τ sig → sProp 𝕄) : bigSep ownCells Φ = bigSep Finset.univ fun c : Dev nD => bigSep Finset.univ fun i : CI => Φ (kcell (c, i)) := by
    unfold ownCells; rw [bigSep_map, bigSep_univ_prod]; rfl
  have hT : bigSep ownToks (fun x => (dutyTok ER x.1 x.2.1 x.2.2 : sProp 𝕄)) = bigSep Finset.univ fun c : Dev nD => toks c := by
    unfold ownToks; rw [bigSep_map, bigSep_univ_prod]
    exact bigSep_congr fun c _ => toks_eq c
  iintro HX
  imod (Rounds.fund ER (Rd I) ownCells ownToks) $$ HX with ⟨Hst, Hr, Hat, Htok⟩
  imodintro
  ihave Hst' := (Entails.of_eq (hX fun g => roundState ER (Rd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier are the cells. -/
theorem sems0_eq (c : Dev nD) :
    iprop(Pipeline.ownSems0 (Ix := Unit) (Name := ℕ) (U := UU) (Lvl := ℕ) (Val := Elt F) (τ := τ) osem c ∗ unscopedSems0 c)
      = iprop((bigSep Finset.univ fun p : Bool × Key => (semVal (kcell (c, some p)) 0 : sProp 𝕄)) ∗ semVal (barCell c) 0) := by
  rw [unscopedSems0_eq]; rfl
theorem cells_eq (c : Dev nD) : (bigSep Finset.univ fun i : CI => (semVal (kcell (c, i)) 0 : sProp 𝕄))
    = iprop(semVal (barCell c) 0 ∗ bigSep Finset.univ fun p : Bool × Key => semVal (kcell (c, some p)) 0) := by
  rw [show (Finset.univ : Finset CI) = insert none ((Finset.univ : Finset (Bool × Key)).map Function.Embedding.some) from rfl,
    bigSep_ins (by simp), bigSep_map]
  rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun i => iprop(∃ κ : ℕ, cellInv ER (Rd I) κ (kcell (c, i))))
          ∗ (bigSep Finset.univ fun i => iprop(atPos ER (kcell (c, i)) 0 ∅ 0 ∗ reached ER (kcell (c, i)) 0)) ∗ toks c) := by
  unfold G
  iintro ⟨Hos, Hus, Hst, Hat, Htok⟩
  ihave Hv := (Entails.of_eq (sems0_eq (F := F) c)) $$ [Hos Hus]
  · isplitl [Hos] <;> iassumption
  icases Hv with ⟨Hp, Hb⟩
  ihave Hv := (Entails.of_eq (cells_eq (F := F) c).symm) $$ [Hp Hb]
  · isplitl [Hb] <;> iassumption
  imod (show iprop((bigSep Finset.univ fun i : CI => semVal (kcell (c, i)) 0) ∗ bigSep Finset.univ fun i : CI => roundState ER (Rd I) (kcell (c, i)) 0)
      ⊢ (|={Set.univ}=> bigSep Finset.univ fun i => iprop(∃ κ : ℕ, cellInv ER (Rd I) κ (kcell (c, i))) : sProp 𝕄) from by
        rw [← bigSep_sep']
        exact (bigSep_mono fun i _ => (Rounds.body_intro ER (Rd I) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- The two rotations, and a transfer's target, as permutations of the devices. -/
def ringE : Dev nD ≃ Dev nD := ⟨rgt, lft, lft_rgt, rgt_lft⟩
def tgtE (r : Fin 6) : Dev nD ≃ Dev nD := ⟨tgt r, frm r, frm_tgt r, tgt_frm r⟩

theorem recv_around : (bigSep Finset.univ fun c : Dev nD => bigSep Finset.univ fun k : Key => (dutyTok ER (recvCell c k) 0 false : sProp 𝕄))
    = bigSep Finset.univ fun c : Dev nD => bigSep Finset.univ fun k : Key => dutyTok ER (recvCell (tgt k.1 c) k) 0 false := by
  rw [bigSep_univ_comm, bigSep_univ_comm (fun (c : Dev nD) (k : Key) => (dutyTok ER (recvCell (tgt k.1 c) k) 0 false : sProp 𝕄))]
  exact bigSep_congr fun k _ => bigSep_univ_equiv (tgtE k.1) (fun c : Dev nD => (dutyTok ER (recvCell c k) 0 false : sProp 𝕄))

/-- The tokens dealt to the devices that spend them. -/
theorem toks_around : (bigSep Finset.univ fun c : Dev nD => (toks c : sProp 𝕄)) ⊢ bigSep Finset.univ fun c : Dev nD => payToks c := by
  unfold toks payToks
  simp only [bigSep_sep']
  rw [recv_around,
    bigSep_univ_equiv ringE (fun c : Dev nD => (dutyTok ER (barCell c) 0 false : sProp 𝕄)),
    bigSep_univ_equiv ringE.symm (fun c : Dev nD => (dutyTok ER (barCell c) 0 true : sProp 𝕄))]
  iintro ⟨⟨H1, H2⟩, H3, H4⟩
  isplitl [H2]; · iexact H2
  isplitl [H1]; · iexact H1
  isplitl [H3]; · iexact H3
  iexact H4

theorem deal_intro (K : Dev nD × CI → ℕ) (c : Dev nD) : iprop(records I K ∗ linear c) ⊢ G' I c := by
  unfold G'; iintro H; iexists K; iexact H

theorem regroup :
    (bigSep Finset.univ fun c : Dev nD => iprop((bigSep Finset.univ fun i => iprop(∃ κ : ℕ, cellInv ER (Rd I) κ (kcell (c, i))))
          ∗ (bigSep Finset.univ fun i => iprop(atPos ER (kcell (c, i)) 0 ∅ 0 ∗ reached ER (kcell (c, i)) 0)) ∗ toks c) : sProp 𝕄)
      ⊢ bigSep Finset.univ (G' I) := by
  rw [bigSep_sep', bigSep_sep', ← bigSep_univ_prod (fun ci : Dev nD × CI => iprop(∃ κ : ℕ, cellInv ER (Rd I) κ (kcell ci))),
    bigSep_congr (s := Finset.univ) (fun (c : Dev nD) _ => bigSep_sep' Finset.univ (fun i : CI => (atPos ER (kcell (c, i)) 0 ∅ 0 : sProp 𝕄)) (fun i => reached ER (kcell (c, i)) 0)),
    bigSep_sep', ← bigSep_univ_prod (fun ci : Dev nD × CI => (reached ER (kcell ci) 0 : sProp 𝕄))]
  iintro ⟨HI, ⟨Hat, #HR⟩, Htok⟩
  ihave HK := (BI.bigSep_exists_pi Finset.univ (fun (ci : Dev nD × CI) (κ : ℕ) => (cellInv ER (Rd I) κ (kcell ci) : sProp 𝕄))) $$ HI
  icases HK with ⟨%K, #HI⟩
  ihave Htk := (toks_around (F := F)) $$ Htok
  iapply (bigSep_with_persistent (R := records I K) fun c _ => deal_intro I K c)
  isplitr
  · unfold records; isplitl; · iexact HI
    iexact HR
  · unfold linear
    rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end Deal

/-! ## The credits at the launch -/

theorem bar_recv (c d : Dev nD) (k : Key) : barCell c ≠ recvCell d k := fun h =>
  absurd (Prod.mk.inj (kcell_injective (a₁ := (c, none)) (a₂ := (d, some (true, k))) h)).2 (by simp)
theorem bar_iff {a b : Dev nD} : barCell a = barCell b ↔ a = b :=
  ⟨fun h => (Prod.mk.inj (kcell_injective (a₁ := (a, none)) (a₂ := (b, none)) h)).1, fun h => h ▸ rfl⟩
theorem recv_inj {a b : Dev nD} {k l : Key} (h : recvCell a k = recvCell b l) : a = b ∧ k = l := by
  have e := kcell_injective (a₁ := (a, some (true, k))) (a₂ := (b, some (true, l))) h
  exact ⟨(Prod.mk.inj e).1, (Prod.mk.inj (Option.some.inj (Prod.mk.inj e).2)).2⟩

theorem Os_bar (d c : Dev nD) (n : ℕ) : Os d n (barCell c) () = 0 := by
  by_contra h
  obtain ⟨k, -, e⟩ := Os_pos (Nat.pos_of_ne_zero h)
  exact bar_recv _ _ _ e

theorem one_tally (g g' : GSem nD τ sig) (n : ℕ) (P : Prop) [Decidable P] (h : g' = g ↔ P) : tallyAt (Ix := Unit) g () n g' () = if P then n else 0 := by
  rw [tallyAt_apply]
  exact if_congr ⟨fun x => h.mp x.1, fun x => ⟨h.mpr x, rfl⟩⟩ rfl rfl

theorem add_two {a b c x y : ℕ} (ha : a = 0) (hb : b = x) (hc : c = y) : a + b + c = x + y := by omega
theorem add_none {a b c x : ℕ} (ha : a = x) (hb : b = 0) (hc : c = 0) : a + b + c = x := by omega

theorem O₀_apply (d : Dev nD) (g : GSem nD τ sig) : O₀ d g () = Os d 0 g () + tallyAt (barCell (rgt d)) () 1 g () + tallyAt (barCell (lft d)) () 1 g () := by
  unfold O₀ O₁
  rw [Pi.add_apply, Finsupp.add_apply, Pi.add_apply, Finsupp.add_apply]

theorem owed_bar (d c : Dev nD) : O₀ d (barCell c) () = (if d = lft c then 1 else 0) + (if d = rgt c then 1 else 0) := by
  rw [O₀_apply]
  refine add_two (Os_bar d c 0) (one_tally _ _ 1 _ ?_) (one_tally _ _ 1 _ ?_)
  · rw [bar_iff]; exact ⟨fun h => by rw [h, lft_rgt], fun h => by rw [h, rgt_lft]⟩
  · rw [bar_iff]; exact ⟨fun h => by rw [h, rgt_lft], fun h => by rw [h, lft_rgt]⟩

theorem Os_recv (d c : Dev nD) (k : Key) : Os d 0 (recvCell c k) () = if d = frm k.1 c then N else 0 := by
  unfold Os
  rw [Finset.sum_apply, Finsupp.finset_sum_apply, toSend_zero]
  rw [Finset.sum_eq_single k]
  · exact one_tally _ _ N _ ⟨fun h => by rw [(recv_inj h).1, frm_tgt], fun h => by rw [h, tgt_frm]⟩
  · intro l _ hl
    rw [tallyAt_ne_cell (fun h => hl (recv_inj h).2.symm)]; rfl
  · exact fun h => absurd (Finset.mem_univ k) h

theorem owed_recv (d c : Dev nD) (k : Key) : O₀ d (recvCell c k) () = if d = frm k.1 c then N else 0 := by
  rw [O₀_apply]
  exact add_none (Os_recv d c k) (by rw [tallyAt_ne_cell (fun h => bar_recv _ _ _ h.symm)]; rfl) (by rw [tallyAt_ne_cell (fun h => bar_recv _ _ _ h.symm)]; rfl)

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (lft c) fun _ => 1, Finset.sum_ite_eq' Finset.univ (rgt c) fun _ => 1, if_pos (Finset.mem_univ _), if_pos (Finset.mem_univ _)]

theorem launch_recv (c : Dev nD) (k : Key) :
    tallyOn (recvCell c k) (launchCredit (Pipeline.owing O₀) 0 (recvCell c k)) = (tallyAt (recvCell c k) () N : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (frm k.1 c) fun _ => N,
    if_pos (Finset.mem_univ _)]

def recvEmb : Key ↪ SemLoc sig := ⟨fun k => csem (some (true, k)), fun k l h => (Prod.mk.inj (Option.some.inj (csem_inj h))).2⟩

theorem creds (c : Dev nD) :
    (Pipeline.launchCred O₀ c : sProp 𝕄) ⊢ iprop(cred (tallyAt (barCell c) () 2) ∗ recvCreds c) := by
  unfold Pipeline.launchCred
  rw [bigSep_univ_at _ (SemLoc.reg barS), launch_bar]
  refine sep_mono_right ?_
  refine (bigSep_subset (t := Finset.univ.map recvEmb) fun s hs => ?_).trans ?_
  · obtain ⟨k, -, rfl⟩ := Finset.mem_map.mp hs
    exact Finset.mem_erase.mpr ⟨fun h => absurd (csem_inj (i := some (true, k)) (j := none) h) (by simp), Finset.mem_univ _⟩
  · unfold recvCreds
    rw [bigSep_map]
    exact bigSep_mono fun k _ => Entails.of_eq (congrArg cred (launch_recv c k))

/-! ## The proof data -/

variable (m : (ℓ : Loc nD τ sig) → Buf (Elt F) ℓ) (ρ : Dev nD → PrngReg)

/-- The devices' staged arguments. -/
def inp : Inp F where
  x c := (win0_0.blk t0_0).view.read (Elt F) (m ((c : Thread nD τ).loc main_arg0))
  wq c := (win0_1.blk t0_0).view.read (Elt F) (m ((c : Thread nD τ).loc main_arg1))
  k c := (win0_2.blk t0_0).view.read (Elt F) (m ((c : Thread nD τ).loc main_arg2))
  v c := (win0_3.blk t0_0).view.read (Elt F) (m ((c : Thread nD τ).loc main_arg3))
  wo c := (win0_4.blk t0_0).view.read (Elt F) (m ((c : Thread nD τ).loc main_arg4))

def start (c : Dev nD) : sProp 𝕄 :=
  iprop(G' (inp m) c ∗ cred (tallyAt (barCell c) () 2) ∗ recvCreds c ∗ levAts L lv)
def Φ₀ (c : Dev nD) : sProp 𝕄 := iprop(start m c ∗ (∃ f, mLoc c ↦{fullShare} f) ∗ (∃ f, rLoc c ↦{fullShare} f))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).k c
    | ⟨3, _⟩ => (inp m).v c
    | ⟨4, _⟩ => (inp m).wo c
    | ⟨5, _⟩ => outAt (inp m) c
  Φ t := match t with
    | ⟨0, _⟩ => Φ₀ m c
    | ⟨_ + 1, _⟩ => back c
  q _ := fullShare
  owed t := match t with
    | ⟨0, _⟩ => O₀ c
    | ⟨_ + 1, _⟩ => 0

theorem bigSep_W (Φ : Fin cfg0.W → sProp 𝕄) : bigSep Finset.univ Φ
    = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem stg_of (c : Dev nD) (b : Ref sig .tc) (X : b.ty.Contents (Elt F)) : (((c : Thread nD τ).loc b) ↦{fullShare} X : sProp 𝕄) ⊢ stg c b X := by
  iintro H; iexists X; isplitr; · ipureintro; rfl
  iexact H

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(back c ∗ (dats m ρ 0 c).owesAt () t0_0.succ
    ∗ stg c cc0_stg0_0 ((inp m).x c) ∗ stg c cc0_stg1_0 ((inp m).wq c) ∗ stg c cc0_stg2_0 ((inp m).k c)
    ∗ stg c cc0_stg3_0 ((inp m).v c) ∗ stg c cc0_stg4_0 ((inp m).wo c) ∗ stg c cc0_stg5_0 (outAt (inp m) c))

theorem staged0 (c : Dev nD) (d) : (dats m ρ 0 c).before (0 : Fin 6) t0_0 d = (inp m).x c := by unfold Dat.before; rw [if_pos (fetch0_0 t0_0)]; rfl
theorem staged1 (c : Dev nD) (d) : (dats m ρ 0 c).before (1 : Fin 6) t0_0 d = (inp m).wq c := by unfold Dat.before; rw [if_pos (fetch0_1 t0_0)]; rfl
theorem staged2 (c : Dev nD) (d) : (dats m ρ 0 c).before (2 : Fin 6) t0_0 d = (inp m).k c := by unfold Dat.before; rw [if_pos (fetch0_2 t0_0)]; rfl
theorem staged3 (c : Dev nD) (d) : (dats m ρ 0 c).before (3 : Fin 6) t0_0 d = (inp m).v c := by unfold Dat.before; rw [if_pos (fetch0_3 t0_0)]; rfl
theorem staged4 (c : Dev nD) (d) : (dats m ρ 0 c).before (4 : Fin 6) t0_0 d = (inp m).wo c := by unfold Dat.before; rw [if_pos (fetch0_4 t0_0)]; rfl

theorem out_any (c : Dev nD) (f : (cc0_stg5_0 : Ref sig .tc).ty.Contents (Elt F)) :
    ((c : Thread nD τ).loc cc0_stg5_0 ↦{fullShare} f : sProp 𝕄) ⊢ iprop(∃ o, outPts c o) := by
  have e := outF_of f
  generalize (fun b => aOut.view.readAt (Elt F) (xR b).toLoadRect f) = o at e
  subst e
  iintro H; iexists o; unfold outPts; iexact H

theorem sound_body (c : Dev nD) : bodyPre m ρ c ⊢ WP c prog fun _ => bodyPost m ρ c := by
  unfold bodyPre Φ₀ start G' Dat.owesAt Pipeline.owesWithin
  simp only [staged0, staged1, staged2, staged3, staged4]
  iintro ⟨⟨⟨⟨%K, #HR, Hlin⟩, Hb, Hr, #Hl⟩, Hm, Hv⟩, ⟨%W, %hW, HO⟩, ⟨%d0, %g0, %e0, H0⟩, ⟨%d1, %g1, %e1, H1⟩, ⟨%d2, %g2, %e2, H2⟩, ⟨%d3, %g3, %e3, H3⟩, ⟨%d4, %g4, %e4, H4⟩, ⟨%d5, %g5, %e5, H5⟩⟩
  subst e0 e1 e2 e3 e4
  rw [show (dats m ρ 0 c).owed t0_0.castSucc = O₀ c from rfl]
  iapply (sound_prog (inp m) K c (fun _ => bodyPost m ρ c))
  isplitr
  · unfold ctx; isplitl; · iexact HR
    iexact Hl
  isplitl
  · unfold bodyIn xPts wqPts kPts vPts woPts
    isplitl [Hlin]; · iexact Hlin
    isplitl [Hb]; · iexact Hb
    isplitl [Hr]; · iexact Hr
    isplitl [Hm]; · iexact Hm
    isplitl [Hv]; · iexact Hv
    isplitl [HO]; · iexists W; iexact HO
    isplitl [H0]; · iexact H0
    isplitl [H1]; · iexact H1
    isplitl [H2]; · iexact H2
    isplitl [H3]; · iexact H3
    isplitl [H4]; · iexact H4
    iapply (out_any c g5); iexact H5
  · unfold bodyOut bodyPost xPts wqPts kPts vPts woPts Dat.owesAt Pipeline.owesWithin
    iintro ⟨Hback, ⟨%W', HO⟩, H0, H1, H2, H3, H4, H5⟩
    isplitl [Hback]; · iexact Hback
    isplitl [HO]
    · iexists W'; isplitr; · ipureintro; exact fun _ _ => Or.inl trivial
      iexact HO
    isplitl [H0]; · iapply (stg_of c cc0_stg0_0); iexact H0
    isplitl [H1]; · iapply (stg_of c cc0_stg1_0); iexact H1
    isplitl [H2]; · iapply (stg_of c cc0_stg2_0); iexact H2
    isplitl [H3]; · iapply (stg_of c cc0_stg3_0); iexact H3
    isplitl [H4]; · iapply (stg_of c cc0_stg4_0); iexact H4
    iapply (stg_of c cc0_stg5_0); iexact H5

theorem body_obligation (c : Dev nD) : BodyObligation (dats m ρ 0 c) (defs₀ (F := F)) 𝒱₀ () Set.univ := fun t => by
  obtain rfl := fin_N0 t
  rw [bigSep_W, bigSep_W]
  simp only [owns_whole_eq]
  show bodyPre m ρ c ⊢ wp frame (wpE (defs₀ (F := F)) 𝒱₀ c none) Set.univ
    (cc0_body (F := F) aX (Memref.isWhole_whole _) aWq (Memref.isWhole_whole _) aK (Memref.isWhole_whole _)
      aV (Memref.isWhole_whole _) aWo (Memref.isWhole_whole _) aOut (Memref.isWhole_whole _)
      aMine hMine aRecv hRecv cc0_scratch2 cc0_scratch3) (fun _ => bodyPost m ρ c)
  rw [body_eq]
  exact sound_body m ρ c

/-! ## The run -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start m c ∗ emp) := by
  iintro ⟨-, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hm, Hr⟩
  isplitl [Hs]; · iexact Hs
  isplitl [Hm]; · iexact Hm
  iexact Hr

theorem sems_back (c : Dev nD) : (bigSep Finset.univ fun i : CI => (semVal (kcell (c, i)) 0 : sProp 𝕄))
    ⊢ iprop(unscopedSems0 c ∗ Pipeline.ownSems0 osem c) := by
  rw [cells_eq, unscopedSems0_eq]; exact BI.Entails.refl _

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = back c from rfl, scopedRest0_eq]
  unfold back
  iintro ⟨Hm, Hr, Hz⟩
  ihave Hz' := (sems_back (F := F) c) $$ Hz
  icases Hz' with ⟨Hu, Ho⟩
  isplitl [Hu]; · iexact Hu
  isplitl [Ho]; · iexact Ho
  isplitl [Hm]; · iexact Hm
  iexact Hr

theorem stage_low : ∀ (w : Fin 6) (s), lvlOf (dec (.dma ((spec0 w).sem s))) = 0 := fun w s => by rw [stage_dec]; rfl

theorem waits (c : Dev nD) : (levAts L lv : sProp 𝕄) ⊢ Pipeline.cellsWaits cfgs (dats m ρ) () 0 c :=
  Pipeline.cellsWaits_intro cfgs (dats m ρ) () 0 c fun w s t =>
    mayWait_low c _ (stage_low w s) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_own (inp m)) $$ HX with HG
      imodintro
      isplitl [HP] <;> iassumption)
    (hglob := glob (inp m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- What the result array holds at the end: the staged result laid over the array. -/
def resAt (c : Dev nD) : Buf (Elt F) ((c : Thread nD τ).loc main_v1) := outAt (inp m) c

theorem flushed_eq (c : Dev nD) (t : Fin cfg0.N) :
    (dats m ρ 0 c).flushed (5 : Fin 6) t = ((cfg0.win (5 : Fin 6)).blk t).view.read (Elt F) (resAt m c) := by
  obtain rfl := fin_N0 t
  have ha : (dats m ρ 0 c).after (5 : Fin 6) t0_0 = outAt (inp m) c := rfl
  unfold Pipeline.Dat.flushed
  rw [ha]
  exact (View.ld_unit_zero (Val := Elt F) (funext fun a => by fin_cases a <;> rfl) _ (outAt (inp m) c)).symm

theorem out_cover (i : (main_v1 : Ref sig .tc).ty.shape.Idx) : ∃ t : Fin cfg0.N, (cfg0.win (5 : Fin 6)).flush t = true ∧ i ∈ ((cfg0.win (5 : Fin 6)).blk t).view.set := by
  refine ⟨t0_0, flush0_5 _, ?_⟩
  show i ∈ ((View.whole main_v1).slice (win0_5.rect t0_0)).set
  rw [View.set_slice_whole]
  rw [Rect.mem_set_unit]
  intro a
  have e : ∀ a : Fin 3, win0_5.index t0_0 a * win0_5.size a = 0 ∧ win0_5.xsize (grid0.coords t0_0) a = S2x512x768.size a := by decide +kernel
  show win0_5.index t0_0 a * win0_5.size a ≤ (i a : Nat) ∧ (i a : Nat) < win0_5.index t0_0 a * win0_5.size a + win0_5.xsize (grid0.coords t0_0) a
  rw [(e a).1, (e a).2, Nat.zero_add]
  exact ⟨Nat.zero_le _, (i a).isLt⟩

theorem finalA_out (c : Dev nD) : finalA m ρ c (5 : Fin 6) = resAt m c :=
  (dats m ρ 0 c).arrAt_eq_of_cover (5 : Fin 6) (resAt m c) (fun t _ => flushed_eq m ρ c t) out_cover

/-- The run of the whole program, at any float values and from any memory. -/
theorem run_all : θ_run defs (onTc (τ := τ) (main (F := F))) ⟨m, fun _ => 0, ρ⟩ (fun r =>
    (∀ c : Dev nD, r.2.mem ((c.tc : Thread nD τ).loc main_v1) = resAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0) :=
  (θ_run defs _ _).mono (fun r h => ⟨fun c => ⟨(h.1 c (5 : Fin 6)).trans (finalA_out m ρ c),
      (h.1 c (0 : Fin 6)).trans ((dats m ρ 0 c).arrAt_in (0 : Fin 6) rfl _), (h.1 c (1 : Fin 6)).trans ((dats m ρ 0 c).arrAt_in (1 : Fin 6) rfl _),
      (h.1 c (2 : Fin 6)).trans ((dats m ρ 0 c).arrAt_in (2 : Fin 6) rfl _), (h.1 c (3 : Fin 6)).trans ((dats m ρ 0 c).arrAt_in (3 : Fin 6) rfl _),
      (h.1 c (4 : Fin 6)).trans ((dats m ρ 0 c).arrAt_in (4 : Fin 6) rfl _)⟩, h.2⟩) (run_main m ρ)

end Cert.KernelIdeal.Own
-- ==== Proof.EqV.lean ====
/-
# The devices' blocks

The launch's argument blocks are the argument arrays; where these are blocks of the reference's arrays and `finite` holds
on every device, the kernel's result on every device is the reference's.
-/
module

public import proofs.«01_k».proof.Proof.AlgV
public import proofs.«01_k».proof.Proof.FinV
public import proofs.«01_k».proof.Proof.LaunchI
public import Idealize.ShloMosaic.Lib.LayoutAt

@[expose] public section

set_option maxRecDepth 16384

noncomputable section

namespace Cert.Own

open Idealize.ShloMosaic Idealize.ShloMosaic.TcCoe Idealize.SL.Sem
open Cert.KernelIdeal Cert.KernelIdeal.Gen Cert.KernelIdeal.Own

variable (m : (ℓ : Loc nD τ sig) → Buf (Elt Ideal) ℓ)

theorem inp_x (c : Dev nD) : (inp m).x c = m ((c.tc : Thread nD τ).loc main_arg0) :=
  View.ld_unit_zero (Val := Elt Ideal) (funext fun a => by fin_cases a <;> rfl) _ (m ((c.tc : Thread nD τ).loc main_arg0))
theorem inp_wq (c : Dev nD) : (inp m).wq c = m ((c.tc : Thread nD τ).loc main_arg1) :=
  View.ld_unit_zero (Val := Elt Ideal) (funext fun a => by fin_cases a <;> rfl) _ (m ((c.tc : Thread nD τ).loc main_arg1))
theorem inp_k (c : Dev nD) : (inp m).k c = m ((c.tc : Thread nD τ).loc main_arg2) :=
  View.ld_unit_zero (Val := Elt Ideal) (funext fun a => by fin_cases a <;> rfl) _ (m ((c.tc : Thread nD τ).loc main_arg2))
theorem inp_v (c : Dev nD) : (inp m).v c = m ((c.tc : Thread nD τ).loc main_arg3) :=
  View.ld_unit_zero (Val := Elt Ideal) (funext fun a => by fin_cases a <;> rfl) _ (m ((c.tc : Thread nD τ).loc main_arg3))
theorem inp_wo (c : Dev nD) : (inp m).wo c = m ((c.tc : Thread nD τ).loc main_arg4) :=
  View.ld_unit_zero (Val := Elt Ideal) (funext fun a => by fin_cases a <;> rfl) _ (m ((c.tc : Thread nD τ).loc main_arg4))

/-- An element of a device's block is one of the whole array. -/
theorem block_at (c : Fin 4) (K : FVec Ideal Cert.ReferenceIdeal.S2x512x2048 .bf16) (b : Fin 2) (k n : Fin 512) :
    Layout.block ⟨3, ![2, 512, 512]⟩ ⟨3, ![2, 512, 2048]⟩ 2 4 c K (by decide) (ix3 b k n) = K (ix3 b k (col c n)) := by
  rw [Layout.block_apply]
  refine congrArg K (funext fun a => Fin.ext ?_)
  match a with
  | ⟨0, h⟩ => exact Layout.Tiles.idx_val_of_ne _ c _ ⟨0, h⟩ (show (0 : Nat) ≠ 2 by decide)
  | ⟨1, h⟩ => exact Layout.Tiles.idx_val_of_ne _ c _ ⟨1, h⟩ (show (1 : Nat) ≠ 2 by decide)
  | ⟨2, h⟩ => exact Layout.Tiles.idx_val_self _ c _ ⟨2, h⟩ rfl

/-- Every column is one of a device's. -/
theorem col_of (N : Fin 2048) : N = col ⟨N.val / 512, by omega⟩ ⟨N.val % 512, Nat.mod_lt _ (by decide)⟩ :=
  Fin.ext (show N.val = N.val / 512 * 512 + N.val % 512 by omega)

variable {m} (X : FVec Ideal Cert.ReferenceIdeal.S2x512x768 .bf16) (W : FVec Ideal Cert.ReferenceIdeal.S768x2048 .bf16)
  (K V : FVec Ideal Cert.ReferenceIdeal.S2x512x2048 .bf16) (O : FVec Ideal Cert.ReferenceIdeal.S2048x768 .bf16)

/-- The result on every device is the reference's. -/
theorem res_eq [hF : Cert.Pre_finite_KernelIdeal.Facts]
    (hp : ∀ c : Dev nD, Cert.Pre_finite_KernelIdeal.fn (F := Ideal) (m ((c.tc : Thread nD τ).loc main_arg0))
      (m ((c.tc : Thread nD τ).loc main_arg1)) (m ((c.tc : Thread nD τ).loc main_arg2))
      (m ((c.tc : Thread nD τ).loc main_arg3)) (m ((c.tc : Thread nD τ).loc main_arg4)) = fun _ => 1#1)
    (h : ∀ c : Dev nD, m ((c.tc : Thread nD τ).loc main_arg0) = X
      ∧ m ((c.tc : Thread nD τ).loc main_arg1) = W
      ∧ m ((c.tc : Thread nD τ).loc main_arg2) = Layout.block ⟨3, ![2, 512, 512]⟩ ⟨3, ![2, 512, 2048]⟩ 2 4 c K
      ∧ m ((c.tc : Thread nD τ).loc main_arg3) = Layout.block ⟨3, ![2, 512, 512]⟩ ⟨3, ![2, 512, 2048]⟩ 2 4 c V
      ∧ m ((c.tc : Thread nD τ).loc main_arg4) = O) (c : Dev nD) :
    resAt m c = Cert.ReferenceIdeal.Own.rOut X W K V O := by
  have B : Blocks (inp m) X W K V O :=
    { x := fun c => (inp_x m c).trans (h c).1
      wq := fun c => (inp_wq m c).trans (h c).2.1
      k := fun c b k n => (congrFun ((inp_k m c).trans (h c).2.2.1) (ix3 b k n)).trans (block_at c K b k n)
      v := fun c b k n => (congrFun ((inp_v m c).trans (h c).2.2.2.1) (ix3 b k n)).trans (block_at c V b k n)
      wo := fun c => (inp_wo m c).trans (h c).2.2.2.2 }
  have F := fun c => real_of_finite _ _ _ _ _ (hp c)
  have R : Reals X W K :=
    { x := fun i => (h 0).1 ▸ (F 0).1 i
      w := fun i => (h 0).2.1 ▸ (F 0).2.1 i
      k := fun i => by
        obtain ⟨b, k, N, rfl⟩ : ∃ (b : Fin 2) (k : Fin 512) (N : Fin 2048), i = ix3 b k N := ⟨i 0, i 1, i 2, funext fun a => by
          match a with
          | ⟨0, _⟩ => rfl
          | ⟨1, _⟩ => rfl
          | ⟨2, _⟩ => rfl⟩
        obtain ⟨r, hr⟩ := (F (⟨N.val / 512, by omega⟩ : Fin 4)).2.2 (ix3 b k (⟨N.val % 512, Nat.mod_lt _ (by decide)⟩ : Fin 512))
        refine ⟨r, Eq.trans ?_ hr⟩
        refine (congrArg (fun N' => K (ix3 b k N')) (col_of N)).trans ?_
        exact ((congrFun (h (⟨N.val / 512, by omega⟩ : Fin 4)).2.2.1 _).trans (block_at _ K b k _)).symm }
  exact out_eq B R c

end Cert.Own
-- ==== Proof.lean ====
module

public import proofs.«01_k».proof.Defs
public import proofs.«01_k».proof.Proof.EqV
public import proofs.«01_k».proof.Proof.LaunchI
public import proofs.«01_k».proof.Proof.LaunchK
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel's frame: its run ends, with its arguments unchanged and every counter back at zero. -/
theorem frame_kernel : Cert.quiescent_Kernel (hKernel := Cert.Kernel.Gen.facts) := fun m ρ _ =>
  (θ_run Cert.Kernel.defs _ _).mono (fun _ h => ⟨fun c => (h.1 c).2, h.2⟩) (Cert.Kernel.Own.run_all m ρ)

/-- The idealized kernel's frame. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Own.run_all m ρ)

/-- The reference's frame: it has no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run m ρ)

/-- The kernel's result on every device is the reference's. -/
theorem alg : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Own.facts_kernel) := fun m ρ m' ρ' hp h =>
  ⟨Cert.ReferenceIdeal.Value.res_main_v47 m' 0,
    (θ_run Cert.KernelIdeal.defs _ _).mono
      (fun _ hr c => ⟨(hr.1 c).1.trans (Cert.Own.res_eq (m := m) (hF := Cert.Own.facts_kernel) _ _ _ _ _ hp h c), (hr.1 c).2⟩) (Cert.KernelIdeal.Own.run_all m ρ),
    (θ_run Cert.ReferenceIdeal.defs _ _).mono (fun _ hr => hr 0) (Cert.ReferenceIdeal.Value.run m' ρ')⟩

theorem claim : Cert.Claim :=
  ⟨Cert.Kernel.Gen.facts, Cert.KernelIdeal.Gen.facts, Cert.ReferenceIdeal.Gen.facts, Cert.Own.facts_kernel, Cert.Own.facts_reference,
    frame_kernel, frame_ideal, fun m ρ _ => frame_ideal m ρ trivial, frame_reference, fun m ρ _ => frame_reference m ρ trivial, trivial, alg⟩

end Cert.Proof

end
